-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_unmasked [hPre_finite_unmasked : Cert.Pre_finite_unmasked.Facts] (m : (ℓ : Loc Cert.KernelIdeal.nD Cert.KernelIdeal.τ Cert.KernelIdeal.sig) → Buf (Elt Ideal) ℓ) : Prop :=
  ∀ c : Dev Cert.KernelIdeal.nD,
    (Cert.Pre_finite_unmasked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).1 = (fun _ => 1#1)
    ∧ (Cert.Pre_finite_unmasked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.1 = (fun _ => 1#1)
    ∧ (Cert.Pre_finite_unmasked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.1 = (fun _ => 1#1)
    ∧ (Cert.Pre_finite_unmasked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.1 = (fun _ => 1#1)
    ∧ (Cert.Pre_finite_unmasked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.1 = (fun _ => 1#1)
    ∧ (Cert.Pre_finite_unmasked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.1 = (fun _ => 1#1)
    ∧ (Cert.Pre_finite_unmasked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.1 = (fun _ => 1#1)
    ∧ (Cert.Pre_finite_unmasked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.1 = (fun _ => 1#1)
    ∧ (Cert.Pre_finite_unmasked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.2.1 = (fun _ => 1#1)
    ∧ (Cert.Pre_finite_unmasked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.2.2.1 = (fun _ => 1#1)
    ∧ (Cert.Pre_finite_unmasked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.2.2.2.1 = (fun _ => 1#1)
    ∧ (Cert.Pre_finite_unmasked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.2.2.2.2.1 = (fun _ => 1#1)
    ∧ (Cert.Pre_finite_unmasked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.2.2.2.2.2.1 = (fun _ => 1#1)
    ∧ (Cert.Pre_finite_unmasked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.2.2.2.2.2.2.1 = (fun _ => 1#1)
    ∧ (Cert.Pre_finite_unmasked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_unmasked [hPre_finite_unmasked : Cert.Pre_finite_unmasked.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_unmasked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).1 = (fun _ => 1#1)
    ∧ (Cert.Pre_finite_unmasked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.1 = (fun _ => 1#1)
    ∧ (Cert.Pre_finite_unmasked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.1 = (fun _ => 1#1)
    ∧ (Cert.Pre_finite_unmasked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.1 = (fun _ => 1#1)
    ∧ (Cert.Pre_finite_unmasked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.1 = (fun _ => 1#1)
    ∧ (Cert.Pre_finite_unmasked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.1 = (fun _ => 1#1)
    ∧ (Cert.Pre_finite_unmasked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.1 = (fun _ => 1#1)
    ∧ (Cert.Pre_finite_unmasked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.1 = (fun _ => 1#1)
    ∧ (Cert.Pre_finite_unmasked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.2.1 = (fun _ => 1#1)
    ∧ (Cert.Pre_finite_unmasked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.2.2.1 = (fun _ => 1#1)
    ∧ (Cert.Pre_finite_unmasked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.2.2.2.1 = (fun _ => 1#1)
    ∧ (Cert.Pre_finite_unmasked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.2.2.2.2.1 = (fun _ => 1#1)
    ∧ (Cert.Pre_finite_unmasked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.2.2.2.2.2.1 = (fun _ => 1#1)
    ∧ (Cert.Pre_finite_unmasked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.2.2.2.2.2.2.1 = (fun _ => 1#1)
    ∧ (Cert.Pre_finite_unmasked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_finite_unmasked [hKernelIdeal : Cert.KernelIdeal.Facts] [hPre_finite_unmasked : Cert.Pre_finite_unmasked.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_unmasked m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_finite_unmasked [hReferenceIdeal : Cert.ReferenceIdeal.Facts] [hPre_finite_unmasked : Cert.Pre_finite_unmasked.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_unmasked m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  True

def algebraic_KernelIdeal_ReferenceIdeal_pre_finite_unmasked [hKernelIdeal : Cert.KernelIdeal.Facts] [hReferenceIdeal : Cert.ReferenceIdeal.Facts] [hPre_finite_unmasked : Cert.Pre_finite_unmasked.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_unmasked m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v33_0)) (v1 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33_0) = v0 c
          ∧ r.2.mem ((c.tc : Thread Cert.KernelIdeal.nD Cert.KernelIdeal.τ).loc Cert.KernelIdeal.main_v34) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_unmasked : Cert.Pre_finite_unmasked.Facts),
    quiescent_Kernel (hKernel := hKernel)
    ∧ quiescent_KernelIdeal (hKernelIdeal := hKernelIdeal)
    ∧ quiescent_KernelIdeal_pre_finite_unmasked (hKernelIdeal := hKernelIdeal) (hPre_finite_unmasked := hPre_finite_unmasked)
    ∧ quiescent_ReferenceIdeal (hReferenceIdeal := hReferenceIdeal)
    ∧ quiescent_ReferenceIdeal_pre_finite_unmasked (hReferenceIdeal := hReferenceIdeal) (hPre_finite_unmasked := hPre_finite_unmasked)
    ∧ preserves_Kernel_KernelIdeal
    ∧ algebraic_KernelIdeal_ReferenceIdeal_pre_finite_unmasked (hKernelIdeal := hKernelIdeal) (hReferenceIdeal := hReferenceIdeal) (hPre_finite_unmasked := hPre_finite_unmasked)
-- ==== Pre_finite_unmasked.lean ====
abbrev S2x512x64 : Shape := ⟨3, ![2, 512, 64]⟩
abbrev S2x512x3 : Shape := ⟨3, ![2, 512, 3]⟩
abbrev S2x512 : Shape := ⟨2, ![2, 512]⟩
abbrev S129x258 : Shape := ⟨2, ![129, 258]⟩
abbrev S258 : Shape := ⟨1, ![258]⟩
abbrev S258x16 : Shape := ⟨2, ![258, 16]⟩
abbrev S16 : Shape := ⟨1, ![16]⟩
abbrev S16x64 : Shape := ⟨2, ![16, 64]⟩
abbrev S64 : Shape := ⟨1, ![64]⟩
abbrev S64x1 : Shape := ⟨2, ![64, 1]⟩
abbrev S1 : Shape := ⟨1, ![1]⟩
abbrev S80x128 : Shape := ⟨2, ![80, 128]⟩
abbrev S128 : Shape := ⟨1, ![128]⟩
abbrev S128x64 : Shape := ⟨2, ![128, 64]⟩
abbrev S_ : Shape := ⟨0, ![]⟩

class Facts : Prop where
  bcast_S_S2x512x64 : S_.BroadcastsInDim S2x512x64 (![] : Fin 0 → Fin S2x512x64.rank)
  bcast_S_S2x512x3 : S_.BroadcastsInDim S2x512x3 (![] : Fin 0 → Fin S2x512x3.rank)
  bcast_S_S129x258 : S_.BroadcastsInDim S129x258 (![] : Fin 0 → Fin S129x258.rank)
  bcast_S_S258 : S_.BroadcastsInDim S258 (![] : Fin 0 → Fin S258.rank)
  bcast_S_S258x16 : S_.BroadcastsInDim S258x16 (![] : Fin 0 → Fin S258x16.rank)
  bcast_S_S16 : S_.BroadcastsInDim S16 (![] : Fin 0 → Fin S16.rank)
  bcast_S_S16x64 : S_.BroadcastsInDim S16x64 (![] : Fin 0 → Fin S16x64.rank)
  bcast_S_S64 : S_.BroadcastsInDim S64 (![] : Fin 0 → Fin S64.rank)
  bcast_S_S64x1 : S_.BroadcastsInDim S64x1 (![] : Fin 0 → Fin S64x1.rank)
  bcast_S_S1 : S_.BroadcastsInDim S1 (![] : Fin 0 → Fin S1.rank)
  bcast_S_S80x128 : S_.BroadcastsInDim S80x128 (![] : Fin 0 → Fin S80x128.rank)
  bcast_S_S128 : S_.BroadcastsInDim S128 (![] : Fin 0 → Fin S128.rank)

variable [Facts]

def fn_part2 {F : FTy → Type} [FloatOps F] (main_arg2 : IVec S2x512 1) (main_arg15 : FVec F S64 .f32) (main_arg16 : FVec F S64 .f32) (main_v2 : IVec S2x512x64 1) (main_v5 : IVec S2x512x3 1) (main_v8 : IVec S129x258 1) (main_v11 : IVec S258 1) (main_v14 : IVec S258x16 1) (main_v17 : IVec S16 1) (main_v20 : IVec S16x64 1) (main_v23 : IVec S64 1) (main_v26 : IVec S64x1 1) (main_v29 : IVec S1 1) (main_v32 : IVec S80x128 1) (main_v35 : IVec S128 1) : IVec S2x512 1 × IVec S2x512x64 1 × IVec S2x512x3 1 × IVec S129x258 1 × IVec S258 1 × IVec S258x16 1 × IVec S16 1 × IVec S16x64 1 × IVec S64 1 × IVec S64x1 1 × IVec S1 1 × IVec S80x128 1 × IVec S128 1 × IVec S64 1 × IVec S64 1 :=
  let main_v36 : FVec F S64 .f32 := Host.absf main_arg15
  let main_cst_11 : FVec F S_ .f32 := constant S_ .f32 0x7F800000#32
  let main_v37 : FVec F S64 .f32 := broadcastInDim S64 ![] bcast_S_S64 main_cst_11
  let main_v38 : IVec S64 1 := cmpf .olt main_v36 main_v37
  let main_v39 : FVec F S64 .f32 := Host.absf main_arg16
  let main_cst_12 : FVec F S_ .f32 := constant S_ .f32 0x7F800000#32
  let main_v40 : FVec F S64 .f32 := broadcastInDim S64 ![] bcast_S_S64 main_cst_12
  let main_v41 : IVec S64 1 := cmpf .olt main_v39 main_v40
  (main_arg2, main_v2, main_v5, main_v8, main_v11, main_v14, main_v17, main_v20, main_v23, main_v26, main_v29, main_v32, main_v35, main_v38, main_v41)

def fn_part1 {F : FTy → Type} [FloatOps F] (main_arg2 : IVec S2x512 1) (main_arg7 : FVec F S16x64 .f32) (main_arg8 : FVec F S64 .f32) (main_arg9 : FVec F S64x1 .f32) (main_arg10 : FVec F S1 .f32) (main_arg11 : FVec F S80x128 .f32) (main_arg12 : FVec F S128 .f32) (main_arg15 : FVec F S64 .f32) (main_arg16 : FVec F S64 .f32) (main_v2 : IVec S2x512x64 1) (main_v5 : IVec S2x512x3 1) (main_v8 : IVec S129x258 1) (main_v11 : IVec S258 1) (main_v14 : IVec S258x16 1) (main_v17 : IVec S16 1) : IVec S2x512 1 × IVec S2x512x64 1 × IVec S2x512x3 1 × IVec S129x258 1 × IVec S258 1 × IVec S258x16 1 × IVec S16 1 × IVec S16x64 1 × IVec S64 1 × IVec S64x1 1 × IVec S1 1 × IVec S80x128 1 × IVec S128 1 × IVec S64 1 × IVec S64 1 :=
  let main_v18 : FVec F S16x64 .f32 := Host.absf main_arg7
  let main_cst_5 : FVec F S_ .f32 := constant S_ .f32 0x7F800000#32
  let main_v19 : FVec F S16x64 .f32 := broadcastInDim S16x64 ![] bcast_S_S16x64 main_cst_5
  let main_v20 : IVec S16x64 1 := cmpf .olt main_v18 main_v19
  let main_v21 : FVec F S64 .f32 := Host.absf main_arg8
  let main_cst_6 : FVec F S_ .f32 := constant S_ .f32 0x7F800000#32
  let main_v22 : FVec F S64 .f32 := broadcastInDim S64 ![] bcast_S_S64 main_cst_6
  let main_v23 : IVec S64 1 := cmpf .olt main_v21 main_v22
  let main_v24 : FVec F S64x1 .f32 := Host.absf main_arg9
  let main_cst_7 : FVec F S_ .f32 := constant S_ .f32 0x7F800000#32
  let main_v25 : FVec F S64x1 .f32 := broadcastInDim S64x1 ![] bcast_S_S64x1 main_cst_7
  let main_v26 : IVec S64x1 1 := cmpf .olt main_v24 main_v25
  let main_v27 : FVec F S1 .f32 := Host.absf main_arg10
  let main_cst_8 : FVec F S_ .f32 := constant S_ .f32 0x7F800000#32
  let main_v28 : FVec F S1 .f32 := broadcastInDim S1 ![] bcast_S_S1 main_cst_8
  let main_v29 : IVec S1 1 := cmpf .olt main_v27 main_v28
  let main_v30 : FVec F S80x128 .f32 := Host.absf main_arg11
  let main_cst_9 : FVec F S_ .f32 := constant S_ .f32 0x7F800000#32
  let main_v31 : FVec F S80x128 .f32 := broadcastInDim S80x128 ![] bcast_S_S80x128 main_cst_9
  let main_v32 : IVec S80x128 1 := cmpf .olt main_v30 main_v31
  let main_v33 : FVec F S128 .f32 := Host.absf main_arg12
  let main_cst_10 : FVec F S_ .f32 := constant S_ .f32 0x7F800000#32
  let main_v34 : FVec F S128 .f32 := broadcastInDim S128 ![] bcast_S_S128 main_cst_10
  let main_v35 : IVec S128 1 := cmpf .olt main_v33 main_v34
  fn_part2 (F := F) main_arg2 main_arg15 main_arg16 main_v2 main_v5 main_v8 main_v11 main_v14 main_v17 main_v20 main_v23 main_v26 main_v29 main_v32 main_v35

def fn {F : FTy → Type} [FloatOps F] (main_arg0 : FVec F S2x512x64 .f32) (main_arg1 : FVec F S2x512x3 .f32) (main_arg2 : IVec S2x512 1) (main_arg3 : FVec F S129x258 .f32) (main_arg4 : FVec F S258 .f32) (main_arg5 : FVec F S258x16 .f32) (main_arg6 : FVec F S16 .f32) (main_arg7 : FVec F S16x64 .f32) (main_arg8 : FVec F S64 .f32) (main_arg9 : FVec F S64x1 .f32) (main_arg10 : FVec F S1 .f32) (main_arg11 : FVec F S80x128 .f32) (main_arg12 : FVec F S128 .f32) (main_arg13 : FVec F S128x64 .f32) (main_arg14 : FVec F S64 .f32) (main_arg15 : FVec F S64 .f32) (main_arg16 : FVec F S64 .f32) : IVec S2x512 1 × IVec S2x512x64 1 × IVec S2x512x3 1 × IVec S129x258 1 × IVec S258 1 × IVec S258x16 1 × IVec S16 1 × IVec S16x64 1 × IVec S64 1 × IVec S64x1 1 × IVec S1 1 × IVec S80x128 1 × IVec S128 1 × IVec S64 1 × IVec S64 1 :=
  let main_v0 : FVec F S2x512x64 .f32 := Host.absf main_arg0
  let main_cst : FVec F S_ .f32 := constant S_ .f32 0x7F800000#32
  let main_v1 : FVec F S2x512x64 .f32 := broadcastInDim S2x512x64 ![] bcast_S_S2x512x64 main_cst
  let main_v2 : IVec S2x512x64 1 := cmpf .olt main_v0 main_v1
  let main_v3 : FVec F S2x512x3 .f32 := Host.absf main_arg1
  let main_cst_0 : FVec F S_ .f32 := constant S_ .f32 0x7F800000#32
  let main_v4 : FVec F S2x512x3 .f32 := broadcastInDim S2x512x3 ![] bcast_S_S2x512x3 main_cst_0
  let main_v5 : IVec S2x512x3 1 := cmpf .olt main_v3 main_v4
  let main_v6 : FVec F S129x258 .f32 := Host.absf main_arg3
  let main_cst_1 : FVec F S_ .f32 := constant S_ .f32 0x7F800000#32
  let main_v7 : FVec F S129x258 .f32 := broadcastInDim S129x258 ![] bcast_S_S129x258 main_cst_1
  let main_v8 : IVec S129x258 1 := cmpf .olt main_v6 main_v7
  let main_v9 : FVec F S258 .f32 := Host.absf main_arg4
  let main_cst_2 : FVec F S_ .f32 := constant S_ .f32 0x7F800000#32
  let main_v10 : FVec F S258 .f32 := broadcastInDim S258 ![] bcast_S_S258 main_cst_2
  let main_v11 : IVec S258 1 := cmpf .olt main_v9 main_v10
  let main_v12 : FVec F S258x16 .f32 := Host.absf main_arg5
  let main_cst_3 : FVec F S_ .f32 := constant S_ .f32 0x7F800000#32
  let main_v13 : FVec F S258x16 .f32 := broadcastInDim S258x16 ![] bcast_S_S258x16 main_cst_3
  let main_v14 : IVec S258x16 1 := cmpf .olt main_v12 main_v13
  let main_v15 : FVec F S16 .f32 := Host.absf main_arg6
  let main_cst_4 : FVec F S_ .f32 := constant S_ .f32 0x7F800000#32
  let main_v16 : FVec F S16 .f32 := broadcastInDim S16 ![] bcast_S_S16 main_cst_4
  let main_v17 : IVec S16 1 := cmpf .olt main_v15 main_v16
  fn_part1 (F := F) main_arg2 main_arg7 main_arg8 main_arg9 main_arg10 main_arg11 main_arg12 main_arg15 main_arg16 main_v2 main_v5 main_v8 main_v11 main_v14 main_v17
-- ==== Kernel.lean ====
abbrev S2x512x64 : Shape := ⟨3, ![2, 512, 64]⟩
abbrev S2x512x3 : Shape := ⟨3, ![2, 512, 3]⟩
abbrev S2x512 : Shape := ⟨2, ![2, 512]⟩
abbrev S129x258 : Shape := ⟨2, ![129, 258]⟩
abbrev S258 : Shape := ⟨1, ![258]⟩
abbrev S258x16 : Shape := ⟨2, ![258, 16]⟩
abbrev S16 : Shape := ⟨1, ![16]⟩
abbrev S16x64 : Shape := ⟨2, ![16, 64]⟩
abbrev S64 : Shape := ⟨1, ![64]⟩
abbrev S64x1 : Shape := ⟨2, ![64, 1]⟩
abbrev S1 : Shape := ⟨1, ![1]⟩
abbrev S80x128 : Shape := ⟨2, ![80, 128]⟩
abbrev S128 : Shape := ⟨1, ![128]⟩
abbrev S128x64 : Shape := ⟨2, ![128, 64]⟩
abbrev S2x64x512 : Shape := ⟨3, ![2, 64, 512]⟩
abbrev S_ : Shape := ⟨0, ![]⟩
abbrev S2x512x8 : Shape := ⟨3, ![2, 512, 8]⟩
abbrev S2x8x512 : Shape := ⟨3, ![2, 8, 512]⟩
abbrev S64x258 : Shape := ⟨2, ![64, 258]⟩
abbrev S258x64 : Shape := ⟨2, ![258, 64]⟩
abbrev S1x258 : Shape := ⟨2, ![1, 258]⟩
abbrev S258x1 : Shape := ⟨2, ![258, 1]⟩
abbrev S16x258 : Shape := ⟨2, ![16, 258]⟩
abbrev S16x1 : Shape := ⟨2, ![16, 1]⟩
abbrev S16x512 : Shape := ⟨2, ![16, 512]⟩
abbrev S64x16 : Shape := ⟨2, ![64, 16]⟩
abbrev S64x512 : Shape := ⟨2, ![64, 512]⟩
abbrev S1x64 : Shape := ⟨2, ![1, 64]⟩
abbrev S1x1 : Shape := ⟨2, ![1, 1]⟩
abbrev S1x128 : Shape := ⟨2, ![1, 128]⟩
abbrev S1x512x64 : Shape := ⟨3, ![1, 512, 64]⟩
abbrev S1x64x512 : Shape := ⟨3, ![1, 64, 512]⟩
abbrev S1x512x8 : Shape := ⟨3, ![1, 512, 8]⟩
abbrev S1x8x512 : Shape := ⟨3, ![1, 8, 512]⟩
abbrev S1x128x64 : Shape := ⟨3, ![1, 128, 64]⟩
abbrev S1x128x8 : Shape := ⟨3, ![1, 128, 8]⟩
abbrev S258x512 : Shape := ⟨2, ![258, 512]⟩
abbrev S128x512 : Shape := ⟨2, ![128, 512]⟩
abbrev S16x128 : Shape := ⟨2, ![16, 128]⟩
abbrev S128x258 : Shape := ⟨2, ![128, 258]⟩
abbrev S258x128 : Shape := ⟨2, ![258, 128]⟩
abbrev S128x8 : Shape := ⟨2, ![128, 8]⟩
abbrev S8x512 : Shape := ⟨2, ![8, 512]⟩
abbrev S128x1 : Shape := ⟨2, ![128, 1]⟩
abbrev S512 : Shape := ⟨1, ![512]⟩
abbrev S1x512 : Shape := ⟨2, ![1, 512]⟩
abbrev S512x8 : Shape := ⟨2, ![512, 8]⟩
abbrev S128x16 : Shape := ⟨2, ![128, 16]⟩
abbrev S128x80 : Shape := ⟨2, ![128, 80]⟩
abbrev S128x128 : Shape := ⟨2, ![128, 128]⟩

abbrev nBuf : Space → Nat
  | .hbm => 59
  | .vmem => 31
  | .smem => 0
  | _ => 0

abbrev bufTy : (tb : Table) → Fin (tcTables nBuf tb) → BufTy
  | .hbm, ⟨0, _⟩ => ⟨S2x512x64, .f32⟩
  | .hbm, ⟨1, _⟩ => ⟨S2x512x3, .f32⟩
  | .hbm, ⟨2, _⟩ => ⟨S2x512, .i1⟩
  | .hbm, ⟨3, _⟩ => ⟨S129x258, .f32⟩
  | .hbm, ⟨4, _⟩ => ⟨S258, .f32⟩
  | .hbm, ⟨5, _⟩ => ⟨S258x16, .f32⟩
  | .hbm, ⟨6, _⟩ => ⟨S16, .f32⟩
  | .hbm, ⟨7, _⟩ => ⟨S16x64, .f32⟩
  | .hbm, ⟨8, _⟩ => ⟨S64, .f32⟩
  | .hbm, ⟨9, _⟩ => ⟨S64x1, .f32⟩
  | .hbm, ⟨10, _⟩ => ⟨S1, .f32⟩
  | .hbm, ⟨11, _⟩ => ⟨S80x128, .f32⟩
  | .hbm, ⟨12, _⟩ => ⟨S128, .f32⟩
  | .hbm, ⟨13, _⟩ => ⟨S128x64, .f32⟩
  | .hbm, ⟨14, _⟩ => ⟨S64, .f32⟩
  | .hbm, ⟨15, _⟩ => ⟨S64, .f32⟩
  | .hbm, ⟨16, _⟩ => ⟨S64, .f32⟩
  | .hbm, ⟨17, _⟩ => ⟨S2x64x512, .f32⟩
  | .hbm, ⟨18, _⟩ => ⟨S_, .i32⟩
  | .hbm, ⟨19, _⟩ => ⟨S_, .f32⟩
  | .hbm, ⟨20, _⟩ => ⟨S2x512x8, .f32⟩
  | .hbm, ⟨21, _⟩ => ⟨S2x8x512, .f32⟩
  | .hbm, ⟨22, _⟩ => ⟨S64x258, .f32⟩
  | .hbm, ⟨23, _⟩ => ⟨S_, .f32⟩
  | .hbm, ⟨24, _⟩ => ⟨S64x258, .f32⟩
  | .hbm, ⟨25, _⟩ => ⟨S64x258, .f32⟩
  | .hbm, ⟨26, _⟩ => ⟨S64x258, .f32⟩
  | .hbm, ⟨27, _⟩ => ⟨S258x64, .f32⟩
  | .hbm, ⟨28, _⟩ => ⟨S_, .f32⟩
  | .hbm, ⟨29, _⟩ => ⟨S258x64, .f32⟩
  | .hbm, ⟨30, _⟩ => ⟨S258x64, .f32⟩
  | .hbm, ⟨31, _⟩ => ⟨S1x258, .f32⟩
  | .hbm, ⟨32, _⟩ => ⟨S258, .f32⟩
  | .hbm, ⟨33, _⟩ => ⟨S258x1, .f32⟩
  | .hbm, ⟨34, _⟩ => ⟨S_, .f32⟩
  | .hbm, ⟨35, _⟩ => ⟨S258x1, .f32⟩
  | .hbm, ⟨36, _⟩ => ⟨S258x1, .f32⟩
  | .hbm, ⟨37, _⟩ => ⟨S_, .f32⟩
  | .hbm, ⟨38, _⟩ => ⟨S258, .f32⟩
  | .hbm, ⟨39, _⟩ => ⟨S258, .f32⟩
  | .hbm, ⟨40, _⟩ => ⟨S16x258, .f32⟩
  | .hbm, ⟨41, _⟩ => ⟨S16x258, .bf16⟩
  | .hbm, ⟨42, _⟩ => ⟨S16x1, .f32⟩
  | .hbm, ⟨43, _⟩ => ⟨S16x512, .f32⟩
  | .hbm, ⟨44, _⟩ => ⟨S64x16, .f32⟩
  | .hbm, ⟨45, _⟩ => ⟨S64x16, .bf16⟩
  | .hbm, ⟨46, _⟩ => ⟨S64x1, .f32⟩
  | .hbm, ⟨47, _⟩ => ⟨S64x512, .f32⟩
  | .hbm, ⟨48, _⟩ => ⟨S1x64, .f32⟩
  | .hbm, ⟨49, _⟩ => ⟨S1x64, .bf16⟩
  | .hbm, ⟨50, _⟩ => ⟨S1x258, .f32⟩
  | .hbm, ⟨51, _⟩ => ⟨S1x1, .f32⟩
  | .hbm, ⟨52, _⟩ => ⟨S1x128, .f32⟩
  | .hbm, ⟨53, _⟩ => ⟨S1x64, .f32⟩
  | .hbm, ⟨54, _⟩ => ⟨S1x64, .f32⟩
  | .hbm, ⟨55, _⟩ => ⟨S1x64, .f32⟩
  | .hbm, ⟨56, _⟩ => ⟨S2x512x64, .f32⟩
  | .hbm, ⟨57, _⟩ => ⟨S2x512x8, .f32⟩
  | .hbm, ⟨58, _⟩ => ⟨S2x512x3, .f32⟩
  | .local _ .vmem, ⟨0, _⟩ => ⟨S1x512x64, .f32⟩
  | .local _ .vmem, ⟨1, _⟩ => ⟨S1x512x64, .f32⟩
  | .local _ .vmem, ⟨2, _⟩ => ⟨S1x64x512, .f32⟩
  | .local _ .vmem, ⟨3, _⟩ => ⟨S1x64x512, .f32⟩
  | .local _ .vmem, ⟨4, _⟩ => ⟨S1x512x8, .f32⟩
  | .local _ .vmem, ⟨5, _⟩ => ⟨S1x512x8, .f32⟩
  | .local _ .vmem, ⟨6, _⟩ => ⟨S1x8x512, .f32⟩
  | .local _ .vmem, ⟨7, _⟩ => ⟨S1x8x512, .f32⟩
  | .local _ .vmem, ⟨8, _⟩ => ⟨S64x258, .f32⟩
  | .local _ .vmem, ⟨9, _⟩ => ⟨S258x64, .f32⟩
  | .local _ .vmem, ⟨10, _⟩ => ⟨S1x258, .f32⟩
  | .local _ .vmem, ⟨11, _⟩ => ⟨S258x1, .f32⟩
  | .local _ .vmem, ⟨12, _⟩ => ⟨S16x258, .bf16⟩
  | .local _ .vmem, ⟨13, _⟩ => ⟨S16x512, .f32⟩
  | .local _ .vmem, ⟨14, _⟩ => ⟨S64x16, .bf16⟩
  | .local _ .vmem, ⟨15, _⟩ => ⟨S64x512, .f32⟩
  | .local _ .vmem, ⟨16, _⟩ => ⟨S1x64, .bf16⟩
  | .local _ .vmem, ⟨17, _⟩ => ⟨S1x1, .f32⟩
  | .local _ .vmem, ⟨18, _⟩ => ⟨S80x128, .f32⟩
  | .local _ .vmem, ⟨19, _⟩ => ⟨S1x128, .f32⟩
  | .local _ .vmem, ⟨20, _⟩ => ⟨S128x64, .f32⟩
  | .local _ .vmem, ⟨21, _⟩ => ⟨S1x64, .f32⟩
  | .local _ .vmem, ⟨22, _⟩ => ⟨S1x64, .f32⟩
  | .local _ .vmem, ⟨23, _⟩ => ⟨S1x64, .f32⟩
  | .local _ .vmem, ⟨24, _⟩ => ⟨S1x128x64, .f32⟩
  | .local _ .vmem, ⟨25, _⟩ => ⟨S1x128x64, .f32⟩
  | .local _ .vmem, ⟨26, _⟩ => ⟨S1x128x8, .f32⟩
  | .local _ .vmem, ⟨27, _⟩ => ⟨S1x128x8, .f32⟩
  | .local _ .vmem, ⟨28, _⟩ => ⟨S258x512, .bf16⟩
  | .local _ .vmem, ⟨29, _⟩ => ⟨S128x512, .f32⟩
  | .local _ .vmem, ⟨30, _⟩ => ⟨S16x128, .f32⟩
  | _, _ => ⟨S2x512x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_c : Ref sig .tc := ⟨.hbm, 18, rfl⟩
abbrev main_call0_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst_0 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_cst_1 : Ref sig .tc := ⟨.hbm, 34, rfl⟩
abbrev main_v13 : Ref sig .tc := ⟨.hbm, 35, rfl⟩
abbrev main_v14 : Ref sig .tc := ⟨.hbm, 36, rfl⟩
abbrev main_cst_2 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33_0 : Ref sig .tc := ⟨.hbm, 56, rfl⟩
abbrev main_v33_1 : Ref sig .tc := ⟨.hbm, 57, rfl⟩
abbrev main_v34 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg17_0 : Ref sig .tc := ⟨.vmem, 21, rfl⟩
abbrev cc0_stg18_0 : Ref sig .tc := ⟨.vmem, 22, rfl⟩
abbrev cc0_stg19_0 : Ref sig .tc := ⟨.vmem, 23, rfl⟩
abbrev cc0_stg20_0 : Ref sig .tc := ⟨.vmem, 24, rfl⟩
abbrev cc0_stg20_1 : Ref sig .tc := ⟨.vmem, 25, rfl⟩
abbrev cc0_stg21_0 : Ref sig .tc := ⟨.vmem, 26, rfl⟩
abbrev cc0_stg21_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem17_0 : DmaSem sig := 21
abbrev cc0_sem18_0 : DmaSem sig := 22
abbrev cc0_sem19_0 : DmaSem sig := 23
abbrev cc0_sem20_0 : DmaSem sig := 24
abbrev cc0_sem20_1 : DmaSem sig := 25
abbrev cc0_sem21_0 : DmaSem sig := 26
abbrev cc0_sem21_1 : DmaSem sig := 27

abbrev nD : Nat := 1
abbrev τ : Topo := Topo.v7x

variable {F : FTy → Type} [FloatOps F]

abbrev grid0 : Pipeline.Grid := ⟨2, ![2, 4], ![false, false]⟩

def k0_off1 (i : grid0.Coords) : Fin 3 → Nat :=
  let c0 : Index := 0#32
  let arg1 : BitVec 32 := BitVec.ofNat 32 (i 1).val
  let c128_i32 : BitVec 32 := 128#32
  let v3 : BitVec 32 := Scalar.muli arg1 c128_i32
  let v4 : Index := Scalar.indexCast v3
  let c0_1 : Index := 0#32
  ![0, v4.toNat, 0]
def k0_off2 (i : grid0.Coords) : Fin 3 → Nat :=
  let c0_7 : Index := 0#32
  let arg1 : BitVec 32 := BitVec.ofNat 32 (i 1).val
  let c128_i32_6 : BitVec 32 := 128#32
  let v15 : BitVec 32 := Scalar.muli arg1 c128_i32_6
  let v16 : Index := Scalar.indexCast v15
  let c0_8 : Index := 0#32
  ![0, v16.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S64x258 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S258x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x258 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S258x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S16x258 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S16x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S64x16 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S64x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x64 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S80x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S128x64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x64 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1x64 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S1x64 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 2 → Memref sig .tc .vmem S1x128x64 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x128x8 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]
-- ==== ReferenceIdeal.lean ====
abbrev S2x512x64 : Shape := ⟨3, ![2, 512, 64]⟩
abbrev S2x512x3 : Shape := ⟨3, ![2, 512, 3]⟩
abbrev S2x512 : Shape := ⟨2, ![2, 512]⟩
abbrev S129x258 : Shape := ⟨2, ![129, 258]⟩
abbrev S258 : Shape := ⟨1, ![258]⟩
abbrev S258x16 : Shape := ⟨2, ![258, 16]⟩
abbrev S16 : Shape := ⟨1, ![16]⟩
abbrev S16x64 : Shape := ⟨2, ![16, 64]⟩
abbrev S64 : Shape := ⟨1, ![64]⟩
abbrev S64x1 : Shape := ⟨2, ![64, 1]⟩
abbrev S1 : Shape := ⟨1, ![1]⟩
abbrev S80x128 : Shape := ⟨2, ![80, 128]⟩
abbrev S128 : Shape := ⟨1, ![128]⟩
abbrev S128x64 : Shape := ⟨2, ![128, 64]⟩
abbrev S2x512x1x3 : Shape := ⟨4, ![2, 512, 1, 3]⟩
abbrev S2x1x512x3 : Shape := ⟨4, ![2, 1, 512, 3]⟩
abbrev S2x512x512x3 : Shape := ⟨4, ![2, 512, 512, 3]⟩
abbrev S_ : Shape := ⟨0, ![]⟩
abbrev S2x512x512 : Shape := ⟨3, ![2, 512, 512]⟩
abbrev S2x512x512x1 : Shape := ⟨4, ![2, 512, 512, 1]⟩
abbrev S2x512x1x64 : Shape := ⟨4, ![2, 512, 1, 64]⟩
abbrev S2x512x512x64 : Shape := ⟨4, ![2, 512, 512, 64]⟩
abbrev S2x1x512x64 : Shape := ⟨4, ![2, 1, 512, 64]⟩
abbrev S2x512x512x129 : Shape := ⟨4, ![2, 512, 512, 129]⟩
abbrev S2x512x512x258 : Shape := ⟨4, ![2, 512, 512, 258]⟩
abbrev S1x1x1x258 : Shape := ⟨4, ![1, 1, 1, 258]⟩
abbrev S2x512x512x16 : Shape := ⟨4, ![2, 512, 512, 16]⟩
abbrev S1x1x1x16 : Shape := ⟨4, ![1, 1, 1, 16]⟩
abbrev S2x512x1 : Shape := ⟨3, ![2, 512, 1]⟩
abbrev S2x1x512 : Shape := ⟨3, ![2, 1, 512]⟩
abbrev S1x1x1x64 : Shape := ⟨4, ![1, 1, 1, 64]⟩
abbrev S1x1x1x1 : Shape := ⟨4, ![1, 1, 1, 1]⟩
abbrev S2x512x16 : Shape := ⟨3, ![2, 512, 16]⟩
abbrev S1x1x64 : Shape := ⟨3, ![1, 1, 64]⟩
abbrev S2x512x80 : Shape := ⟨3, ![2, 512, 80]⟩
abbrev S2x512x128 : Shape := ⟨3, ![2, 512, 128]⟩
abbrev S1x1x128 : Shape := ⟨3, ![1, 1, 128]⟩

abbrev nBuf : Space → Nat
  | .hbm => 157
  | .vmem => 0
  | .smem => 0
  | _ => 0

abbrev hbmTy0_0 (i : Nat) : BufTy := match i % 128 with
  | 0 => ⟨S2x512x64, .f32⟩
  | 1 => ⟨S2x512x3, .f32⟩
  | 2 => ⟨S2x512, .i1⟩
  | 3 => ⟨S129x258, .f32⟩
  | 4 => ⟨S258, .f32⟩
  | 5 => ⟨S258x16, .f32⟩
  | 6 => ⟨S16, .f32⟩
  | 7 => ⟨S16x64, .f32⟩
  | 8 => ⟨S64, .f32⟩
  | 9 => ⟨S64x1, .f32⟩
  | 10 => ⟨S1, .f32⟩
  | 11 => ⟨S80x128, .f32⟩
  | 12 => ⟨S128, .f32⟩
  | 13 => ⟨S128x64, .f32⟩
  | 14 => ⟨S64, .f32⟩
  | 15 => ⟨S64, .f32⟩
  | 16 => ⟨S64, .f32⟩
  | 17 => ⟨S2x512x1x3, .f32⟩
  | 18 => ⟨S2x1x512x3, .f32⟩
  | 19 => ⟨S2x512x512x3, .f32⟩
  | 20 => ⟨S2x512x512x3, .f32⟩
  | 21 => ⟨S2x512x512x3, .f32⟩
  | 22 => ⟨S2x512x512x3, .f32⟩
  | 23 => ⟨S_, .f32⟩
  | 24 => ⟨S2x512x512, .f32⟩
  | 25 => ⟨S2x512x512x1, .f32⟩
  | 26 => ⟨S2x512x1x64, .f32⟩
  | 27 => ⟨S2x512x512x64, .f32⟩
  | 28 => ⟨S2x1x512x64, .f32⟩
  | 29 => ⟨S2x512x512x64, .f32⟩
  | 30 => ⟨S2x512x512x129, .f32⟩
  | 31 => ⟨S2x512x512x258, .f32⟩
  | 32 => ⟨S1x1x1x258, .f32⟩
  | 33 => ⟨S2x512x512x258, .f32⟩
  | 34 => ⟨S2x512x512x258, .f32⟩
  | 35 => ⟨S2x512x512x258, .f32⟩
  | 36 => ⟨S2x512x512x258, .f32⟩
  | 37 => ⟨S_, .f32⟩
  | 38 => ⟨S2x512x512x258, .f32⟩
  | 39 => ⟨S2x512x512x258, .f32⟩
  | 40 => ⟨S_, .f32⟩
  | 41 => ⟨S2x512x512x258, .f32⟩
  | 42 => ⟨S2x512x512x258, .f32⟩
  | 43 => ⟨S2x512x512x258, .f32⟩
  | 44 => ⟨S2x512x512x16, .f32⟩
  | 45 => ⟨S1x1x1x16, .f32⟩
  | 46 => ⟨S2x512x512x16, .f32⟩
  | 47 => ⟨S2x512x512x16, .f32⟩
  | 48 => ⟨S2x512x512x16, .f32⟩
  | 49 => ⟨S2x512x512x16, .f32⟩
  | 50 => ⟨S_, .f32⟩
  | 51 => ⟨S2x512x512x16, .f32⟩
  | 52 => ⟨S2x512x512x16, .f32⟩
  | 53 => ⟨S_, .f32⟩
  | 54 => ⟨S2x512x512x16, .f32⟩
  | 55 => ⟨S2x512x512x16, .f32⟩
  | 56 => ⟨S2x512x512x16, .f32⟩
  | 57 => ⟨S2x512x1, .i1⟩
  | 58 => ⟨S2x1x512, .i1⟩
  | 59 => ⟨S2x512x512, .i1⟩
  | 60 => ⟨S2x512x512, .i1⟩
  | 61 => ⟨S2x512x512, .i1⟩
  | 62 => ⟨S2x512x512x64, .f32⟩
  | 63 => ⟨S1x1x1x64, .f32⟩
  | 64 => ⟨S2x512x512x64, .f32⟩
  | 65 => ⟨S2x512x512x64, .f32⟩
  | 66 => ⟨S2x512x512x64, .f32⟩
  | 67 => ⟨S2x512x512x64, .f32⟩
  | 68 => ⟨S_, .f32⟩
  | 69 => ⟨S2x512x512x64, .f32⟩
  | 70 => ⟨S2x512x512x64, .f32⟩
  | 71 => ⟨S_, .f32⟩
  | 72 => ⟨S2x512x512x64, .f32⟩
  | 73 => ⟨S2x512x512x64, .f32⟩
  | 74 => ⟨S2x512x512x64, .f32⟩
  | 75 => ⟨S2x512x512x1, .f32⟩
  | 76 => ⟨S1x1x1x1, .f32⟩
  | 77 => ⟨S2x512x512x1, .f32⟩
  | 78 => ⟨S2x512x512x1, .f32⟩
  | 79 => ⟨S2x512x512, .f32⟩
  | 80 => ⟨S_, .f32⟩
  | 81 => ⟨S_, .f32⟩
  | 82 => ⟨S2x512x512, .f32⟩
  | 83 => ⟨S2x512x512, .f32⟩
  | 84 => ⟨S2x512x3, .f32⟩
  | 85 => ⟨S2x512x3, .f32⟩
  | 86 => ⟨S2x512x512x1, .i1⟩
  | 87 => ⟨S_, .f32⟩
  | 88 => ⟨S_, .f32⟩
  | 89 => ⟨S2x512x512x16, .i1⟩
  | 90 => ⟨S2x512x512x16, .f32⟩
  | 91 => ⟨S2x512x512x16, .f32⟩
  | 92 => ⟨S_, .f32⟩
  | 93 => ⟨S2x512x16, .f32⟩
  | 94 => ⟨S_, .f32⟩
  | 95 => ⟨S2x512, .f32⟩
  | 96 => ⟨S2x512x1, .f32⟩
  | 97 => ⟨S_, .f32⟩
  | 98 => ⟨S2x512x1, .f32⟩
  | 99 => ⟨S2x512x1, .f32⟩
  | 100 => ⟨S_, .i32⟩
  | 101 => ⟨S_, .f32⟩
  | 102 => ⟨S2x512, .f32⟩
  | 103 => ⟨S2x512x1, .f32⟩
  | 104 => ⟨S_, .f32⟩
  | 105 => ⟨S2x512x1, .f32⟩
  | 106 => ⟨S2x512x1, .f32⟩
  | 107 => ⟨S2x512x64, .f32⟩
  | 108 => ⟨S2x512x64, .f32⟩
  | 109 => ⟨S2x512x64, .f32⟩
  | 110 => ⟨S_, .f32⟩
  | 111 => ⟨S_, .f32⟩
  | 112 => ⟨S_, .f32⟩
  | 113 => ⟨S_, .f32⟩
  | 114 => ⟨S2x512, .f32⟩
  | 115 => ⟨S2x512x1, .f32⟩
  | 116 => ⟨S2x512x1, .f32⟩
  | 117 => ⟨S2x512x1, .f32⟩
  | 118 => ⟨S_, .f32⟩
  | 119 => ⟨S_, .i1⟩
  | 120 => ⟨S_, .f32⟩
  | 121 => ⟨S_, .f32⟩
  | 122 => ⟨S2x512x1, .f32⟩
  | 123 => ⟨S2x512x1, .f32⟩
  | 124 => ⟨S2x512x64, .f32⟩
  | 125 => ⟨S2x512x64, .f32⟩
  | 126 => ⟨S_, .f32⟩
  | 127 => ⟨S2x512x1, .f32⟩
  | _ => ⟨S2x512x64, .f32⟩

abbrev hbmTy0_1 (i : Nat) : BufTy := match i % 128 with
  | 0 => ⟨S2x512x1, .f32⟩
  | 1 => ⟨S2x512x1, .f32⟩
  | 2 => ⟨S2x512x64, .f32⟩
  | 3 => ⟨S2x512x64, .f32⟩
  | 4 => ⟨S1x1x64, .f32⟩
  | 5 => ⟨S2x512x64, .f32⟩
  | 6 => ⟨S2x512x64, .f32⟩
  | 7 => ⟨S1x1x64, .f32⟩
  | 8 => ⟨S2x512x64, .f32⟩
  | 9 => ⟨S2x512x64, .f32⟩
  | 10 => ⟨S2x512x80, .f32⟩
  | 11 => ⟨S2x512x128, .f32⟩
  | 12 => ⟨S1x1x128, .f32⟩
  | 13 => ⟨S2x512x128, .f32⟩
  | 14 => ⟨S2x512x128, .f32⟩
  | 15 => ⟨S2x512x128, .f32⟩
  | 16 => ⟨S2x512x128, .f32⟩
  | 17 => ⟨S_, .f32⟩
  | 18 => ⟨S2x512x128, .f32⟩
  | 19 => ⟨S2x512x128, .f32⟩
  | 20 => ⟨S_, .f32⟩
  | 21 => ⟨S2x512x128, .f32⟩
  | 22 => ⟨S2x512x128, .f32⟩
  | 23 => ⟨S2x512x128, .f32⟩
  | 24 => ⟨S2x512x64, .f32⟩
  | 25 => ⟨S1x1x64, .f32⟩
  | 26 => ⟨S2x512x64, .f32⟩
  | 27 => ⟨S2x512x64, .f32⟩
  | 28 => ⟨S2x512x64, .f32⟩
  | _ => ⟨S2x512x64, .f32⟩

abbrev hbmTy (i : Nat) : BufTy := match i / 128 with
  | 0 => hbmTy0_0 i
  | 1 => hbmTy0_1 i
  | _ => ⟨S2x512x64, .f32⟩

abbrev bufTy : (tb : Table) → Fin (tcTables nBuf tb) → BufTy
  | .hbm, ⟨i, _⟩ => hbmTy i
  | _, _ => ⟨S2x512x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_cst : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_0 : Ref sig .tc := ⟨.hbm, 37, rfl⟩
abbrev main_v19 : Ref sig .tc := ⟨.hbm, 38, rfl⟩
abbrev main_v20 : Ref sig .tc := ⟨.hbm, 39, rfl⟩
abbrev main_cst_1 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_2 : Ref sig .tc := ⟨.hbm, 50, rfl⟩
abbrev main_v30 : Ref sig .tc := ⟨.hbm, 51, rfl⟩
abbrev main_v31 : Ref sig .tc := ⟨.hbm, 52, rfl⟩
abbrev main_cst_3 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_4 : Ref sig .tc := ⟨.hbm, 68, rfl⟩
abbrev main_v46 : Ref sig .tc := ⟨.hbm, 69, rfl⟩
abbrev main_v47 : Ref sig .tc := ⟨.hbm, 70, rfl⟩
abbrev main_cst_5 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_6 : Ref sig .tc := ⟨.hbm, 80, rfl⟩
abbrev main_call0_v0 : Ref sig .tc := ⟨.hbm, 81, rfl⟩
abbrev main_call0_v1 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_7 : Ref sig .tc := ⟨.hbm, 87, rfl⟩
abbrev main_call1_v0 : Ref sig .tc := ⟨.hbm, 88, rfl⟩
abbrev main_call1_v1 : Ref sig .tc := ⟨.hbm, 89, rfl⟩
abbrev main_call1_v2 : Ref sig .tc := ⟨.hbm, 90, rfl⟩
abbrev main_v60 : Ref sig .tc := ⟨.hbm, 91, rfl⟩
abbrev main_cst_8 : Ref sig .tc := ⟨.hbm, 92, rfl⟩
abbrev main_v61 : Ref sig .tc := ⟨.hbm, 93, rfl⟩
abbrev main_cst_9 : Ref sig .tc := ⟨.hbm, 94, rfl⟩
abbrev main_v62 : Ref sig .tc := ⟨.hbm, 95, rfl⟩
abbrev main_v63 : Ref sig .tc := ⟨.hbm, 96, rfl⟩
abbrev main_cst_10 : Ref sig .tc := ⟨.hbm, 97, rfl⟩
abbrev main_v64 : Ref sig .tc := ⟨.hbm, 98, rfl⟩
abbrev main_v65 : Ref sig .tc := ⟨.hbm, 99, rfl⟩
abbrev main_c : Ref sig .tc := ⟨.hbm, 100, rfl⟩
abbrev main_call2_cst : Ref sig .tc := ⟨.hbm, 101, rfl⟩
abbrev main_call2_v0 : Ref sig .tc := ⟨.hbm, 102, rfl⟩
abbrev main_call2_v1 : Ref sig .tc := ⟨.hbm, 103, rfl⟩
abbrev main_call2_cst_0 : Ref sig .tc := ⟨.hbm, 104, rfl⟩
abbrev main_call2_v2 : Ref sig .tc := ⟨.hbm, 105, rfl⟩
abbrev main_call2_v3 : Ref sig .tc := ⟨.hbm, 106, rfl⟩
abbrev main_call2_v4 : Ref sig .tc := ⟨.hbm, 107, rfl⟩
abbrev main_call2_v5 : Ref sig .tc := ⟨.hbm, 108, rfl⟩
abbrev main_call2_v6 : Ref sig .tc := ⟨.hbm, 109, rfl⟩
abbrev main_call2_v7 : Ref sig .tc := ⟨.hbm, 110, rfl⟩
abbrev main_call2_cst_1 : Ref sig .tc := ⟨.hbm, 111, rfl⟩
abbrev main_call2_v8 : Ref sig .tc := ⟨.hbm, 112, rfl⟩
abbrev main_call2_cst_2 : Ref sig .tc := ⟨.hbm, 113, rfl⟩
abbrev main_call2_v9 : Ref sig .tc := ⟨.hbm, 114, rfl⟩
abbrev main_call2_v10 : Ref sig .tc := ⟨.hbm, 115, rfl⟩
abbrev main_call2_v11 : Ref sig .tc := ⟨.hbm, 116, rfl⟩
abbrev main_call2_v12 : Ref sig .tc := ⟨.hbm, 117, rfl⟩
abbrev main_call2_cst_3 : Ref sig .tc := ⟨.hbm, 118, rfl⟩
abbrev main_call2_v13 : Ref sig .tc := ⟨.hbm, 119, rfl⟩
abbrev main_call2_cst_4 : Ref sig .tc := ⟨.hbm, 120, rfl⟩
abbrev main_call2_call0_v0 : Ref sig .tc := ⟨.hbm, 121, rfl⟩
abbrev main_call2_call0_v1 : Ref sig .tc := ⟨.hbm, 122, rfl⟩
abbrev main_v66 : Ref sig .tc := ⟨.hbm, 123, rfl⟩
abbrev main_v67 : Ref sig .tc := ⟨.hbm, 124, rfl⟩
abbrev main_v68 : Ref sig .tc := ⟨.hbm, 125, rfl⟩
abbrev main_cst_11 : Ref sig .tc := ⟨.hbm, 126, rfl⟩
abbrev main_v69 : Ref sig .tc := ⟨.hbm, 127, rfl⟩
abbrev main_v70 : Ref sig .tc := ⟨.hbm, 128, rfl⟩
abbrev main_v71 : Ref sig .tc := ⟨.hbm, 129, rfl⟩
abbrev main_v72 : Ref sig .tc := ⟨.hbm, 130, rfl⟩
abbrev main_v73 : Ref sig .tc := ⟨.hbm, 131, rfl⟩
abbrev main_v74 : Ref sig .tc := ⟨.hbm, 132, rfl⟩
abbrev main_v75 : Ref sig .tc := ⟨.hbm, 133, rfl⟩
abbrev main_v76 : Ref sig .tc := ⟨.hbm, 134, rfl⟩
abbrev main_v77 : Ref sig .tc := ⟨.hbm, 135, rfl⟩
abbrev main_v78 : Ref sig .tc := ⟨.hbm, 136, rfl⟩
abbrev main_v79 : Ref sig .tc := ⟨.hbm, 137, rfl⟩
abbrev main_v80 : Ref sig .tc := ⟨.hbm, 138, rfl⟩
abbrev main_v81 : Ref sig .tc := ⟨.hbm, 139, rfl⟩
abbrev main_v82 : Ref sig .tc := ⟨.hbm, 140, rfl⟩
abbrev main_v83 : Ref sig .tc := ⟨.hbm, 141, rfl⟩
abbrev main_v84 : Ref sig .tc := ⟨.hbm, 142, rfl⟩
abbrev main_v85 : Ref sig .tc := ⟨.hbm, 143, rfl⟩
abbrev main_v86 : Ref sig .tc := ⟨.hbm, 144, rfl⟩
abbrev main_cst_12 : Ref sig .tc := ⟨.hbm, 145, rfl⟩
abbrev main_v87 : Ref sig .tc := ⟨.hbm, 146, rfl⟩
abbrev main_v88 : Ref sig .tc := ⟨.hbm, 147, rfl⟩
abbrev main_cst_13 : Ref sig .tc := ⟨.hbm, 148, rfl⟩
abbrev main_v89 : Ref sig .tc := ⟨.hbm, 149, rfl⟩
abbrev main_v90 : Ref sig .tc := ⟨.hbm, 150, rfl⟩
abbrev main_v91 : Ref sig .tc := ⟨.hbm, 151, rfl⟩
abbrev main_v92 : Ref sig .tc := ⟨.hbm, 152, rfl⟩
abbrev main_v93 : Ref sig .tc := ⟨.hbm, 153, rfl⟩
abbrev main_v94 : Ref sig .tc := ⟨.hbm, 154, rfl⟩
abbrev main_v95 : Ref sig .tc := ⟨.hbm, 155, rfl⟩
abbrev main_v96 : Ref sig .tc := ⟨.hbm, 156, rfl⟩

abbrev nD : Nat := 1
abbrev τ : Topo := Topo.v7x

variable {F : FTy → Type} [FloatOps F]
-- ==== Proof.Spec.lean ====
/- The network of one layer over real numbers: what both programs compute when every argument is finite, and the
   few facts about real numbers that the two legs need. -/
module

public import Idealize.ShloMosaic.PureOps
public import Idealize.ShloMosaic.PureOps.Ideal.Laws

@[expose] public section

noncomputable section

namespace Cert.Layer

open Idealize.ShloMosaic

/-- The arguments as numbers; the last product and its bias may be anything. -/
structure Nums where
  f : Fin 2 → Fin 512 → Fin 64 → ℝ
  c : Fin 2 → Fin 512 → Fin 3 → ℝ
  we1 : Fin 129 → Fin 258 → ℝ
  be1 : Fin 258 → ℝ
  we2 : Fin 258 → Fin 16 → ℝ
  be2 : Fin 16 → ℝ
  wc1 : Fin 16 → Fin 64 → ℝ
  bc1 : Fin 64 → ℝ
  wc2 : Fin 64 → ℝ
  bc2 : ℝ
  wn1 : Fin 80 → Fin 128 → ℝ
  bn1 : Fin 128 → ℝ
  wn2 : Fin 128 → Fin 64 → EReal
  bn2 : Fin 64 → EReal
  g : Fin 64 → ℝ
  bt : Fin 64 → ℝ

/-- A sum over 80 places split after 64. -/
theorem sum_80 (f : Fin 80 → ℝ) :
    ∑ k, f k = (∑ k : Fin 64, f ⟨k.val, by omega⟩) + ∑ k : Fin 16, f ⟨64 + k.val, by omega⟩ := by
  rw [Fin.sum_univ_add (a := 64) (b := 16)]
  rfl

/-- `x · sigmoid x`. -/
def sil (x : ℝ) : ℝ := x * (1 / (1 + Real.exp (-x)))

/-- The number added to the variance. -/
def eps : ℝ := 10995116 / 2 ^ 40

theorem eps_pos : 0 < eps := by unfold eps; norm_num

namespace Nums

variable (N : Nums)

def dist (b : Fin 2) (i j : Fin 512) : ℝ := ∑ x : Fin 3, (N.c b i x - N.c b j x) * (N.c b i x - N.c b j x)

def pre (b : Fin 2) (i j : Fin 512) (e : Fin 258) : ℝ :=
  (∑ k : Fin 64, N.f b i k * N.we1 ⟨k.val, by omega⟩ e) + (∑ k : Fin 64, N.f b j k * N.we1 ⟨64 + k.val, by omega⟩ e)
    + N.dist b i j * N.we1 ⟨128, by omega⟩ e + N.be1 e

def mij (b : Fin 2) (i j : Fin 512) (q : Fin 16) : ℝ := sil ((∑ e : Fin 258, sil (N.pre b i j e) * N.we2 e q) + N.be2 q)

def chid (b : Fin 2) (i j : Fin 512) (l : Fin 64) : ℝ := sil ((∑ q : Fin 16, N.mij b i j q * N.wc1 q l) + N.bc1 l)

def cw (b : Fin 2) (i j : Fin 512) : ℝ := (∑ l : Fin 64, N.chid b i j l * N.wc2 l) + N.bc2

def coor (b : Fin 2) (i : Fin 512) (x : Fin 3) : ℝ := (∑ j : Fin 512, N.cw b i j * (N.c b i x - N.c b j x)) + N.c b i x

def mi (b : Fin 2) (i : Fin 512) (q : Fin 16) : ℝ := ∑ j : Fin 512, N.mij b i j q

def mu (b : Fin 2) (i : Fin 512) : ℝ := (∑ k : Fin 64, N.f b i k) * (1 / 64)

def var (b : Fin 2) (i : Fin 512) : ℝ := (∑ k : Fin 64, (N.f b i k - N.mu b i) * (N.f b i k - N.mu b i)) * (1 / 64)

def nrm (b : Fin 2) (i : Fin 512) (k : Fin 64) : ℝ :=
  (N.f b i k - N.mu b i) * (1 / Real.sqrt (N.var b i + eps)) * N.g k + N.bt k

def hid (b : Fin 2) (i : Fin 512) (n : Fin 128) : ℝ :=
  sil (((∑ k : Fin 64, N.nrm b i k * N.wn1 ⟨k.val, by omega⟩ n) + (∑ q : Fin 16, N.mi b i q * N.wn1 ⟨64 + q.val, by omega⟩ n))
    + N.bn1 n)

def node (b : Fin 2) (i : Fin 512) (k : Fin 64) : EReal :=
  ((∑ n : Fin 128, ((N.hid b i n : ℝ) : EReal) * N.wn2 n k) + N.bn2 k) + ((N.f b i k : ℝ) : EReal)

theorem var_eps_pos (b : Fin 2) (i : Fin 512) : 0 < N.var b i + eps := by
  have h : 0 ≤ N.var b i := by
    unfold var
    exact mul_nonneg (Finset.sum_nonneg fun k _ => mul_self_nonneg _) (by norm_num)
  linarith [eps_pos]

/-- The distance as the sum of the two squared lengths less twice the product, over coordinates padded with zeros. -/
theorem dist_eq (b : Fin 2) (i j : Fin 512) (p : Fin 512 → Fin 8 → ℝ)
    (hp : ∀ (r : Fin 512) (x : Fin 8), p r x = if h : x.val < 3 then N.c b r ⟨x.val, h⟩ else 0) :
    ((∑ x : Fin 8, p i x * p i x) + ∑ x : Fin 8, p j x * p j x) - 2 * ∑ x : Fin 8, p i x * p j x = N.dist b i j := by
  simp only [Fin.sum_univ_eight, hp, dist, Fin.sum_univ_three]
  simp
  ring

/-- A sum over eight coordinates of a product with a padded row: the first three. -/
theorem coor_eq (b : Fin 2) (i : Fin 512) (x : Fin 3) :
    N.c b i x + (∑ j : Fin 512, N.cw b i j) * N.c b i x - ∑ j : Fin 512, N.cw b i j * N.c b j x = N.coor b i x := by
  unfold coor
  rw [Finset.sum_mul]
  simp only [mul_sub, Finset.sum_sub_distrib]
  ring

/-- The first layer with the three parts of its weight halved, as the row part, the column part and the distance part. -/
theorem pre_half (b : Fin 2) (i j : Fin 512) (e : Fin 258) :
    (∑ k : Fin 64, N.we1 ⟨64 + k.val, by omega⟩ e * (1 / 2) * N.f b j k)
      + (((∑ k : Fin 64, N.f b i k * (N.we1 ⟨k.val, by omega⟩ e * (1 / 2))) + N.be1 e * (1 / 2))
        + N.dist b i j * (N.we1 ⟨128, by omega⟩ e * (1 / 2)))
      = N.pre b i j e * (1 / 2) := by
  unfold pre
  have h1 : (∑ k : Fin 64, N.we1 ⟨64 + k.val, by omega⟩ e * (1 / 2) * N.f b j k)
      = (∑ k : Fin 64, N.f b j k * N.we1 ⟨64 + k.val, by omega⟩ e) * (1 / 2) := by
    rw [Finset.sum_mul]; exact Finset.sum_congr rfl fun k _ => by ring
  have h2 : (∑ k : Fin 64, N.f b i k * (N.we1 ⟨k.val, by omega⟩ e * (1 / 2)))
      = (∑ k : Fin 64, N.f b i k * N.we1 ⟨k.val, by omega⟩ e) * (1 / 2) := by
    rw [Finset.sum_mul]; exact Finset.sum_congr rfl fun k _ => by ring
  rw [h1, h2]; ring

end Nums

/-- `h + h · tanh h` at half of `x` is `x · sigmoid x`. -/
theorem sil_half (x : ℝ) : x * (1 / 2) + x * (1 / 2) * Real.tanh (x * (1 / 2)) = sil x := by
  unfold sil
  rw [Real.tanh_eq_sinh_div_cosh, Real.sinh_eq, Real.cosh_eq]
  have h1 : Real.exp (-x) = Real.exp (-(x * (1 / 2))) * Real.exp (-(x * (1 / 2))) := by rw [← Real.exp_add]; congr 1; ring
  have h2 : Real.exp (x * (1 / 2)) * Real.exp (-(x * (1 / 2))) = 1 := by rw [← Real.exp_add]; simp
  have p1 := Real.exp_pos (x * (1 / 2))
  have p2 := Real.exp_pos (-(x * (1 / 2)))
  rw [h1]
  generalize Real.exp (x * (1 / 2)) = A at *
  generalize Real.exp (-(x * (1 / 2))) = B at *
  have h3 : (A + B) / 2 ≠ 0 := by positivity
  have h4 : 1 + B * B ≠ 0 := by positivity
  field_simp
  have h5 : A + B ≠ 0 := by positivity
  linear_combination (2 * x * B) * h2

theorem coe_sum {ι : Type*} [Fintype ι] (f : ι → ℝ) : (∑ k, ((f k : ℝ) : EReal)) = ((∑ k, f k : ℝ) : EReal) :=
  (map_sum (⟨⟨Real.toEReal, EReal.coe_zero⟩, EReal.coe_add⟩ : ℝ →+ EReal) f Finset.univ).symm

theorem tanh_coe (x : ℝ) : Ideal.tanh (x : EReal) = ((Real.tanh x : ℝ) : EReal) := rfl

theorem exp_coe (x : ℝ) : Ideal.exp (x : EReal) = ((Real.exp x : ℝ) : EReal) := rfl

theorem bits_zero : Ideal.ofBits .f32 0x00000000#32 = ((0 : ℝ) : EReal) := by
  simp [Ideal.ofBits, Ideal.ieee]

theorem bits_one : Ideal.ofBits .f32 0x3F800000#32 = ((1 : ℝ) : EReal) := by
  simp [Ideal.ofBits, Ideal.ieee, -EReal.coe_mul]; norm_num

theorem bits_two : Ideal.ofBits .f32 0x40000000#32 = ((2 : ℝ) : EReal) := by
  simp [Ideal.ofBits, Ideal.ieee, -EReal.coe_mul]; norm_num

theorem bits_half : Ideal.ofBits .f32 0x3F000000#32 = ((1 / 2 : ℝ) : EReal) := by
  simp [Ideal.ofBits, Ideal.ieee, -EReal.coe_mul]; norm_num

theorem bits_64 : Ideal.ofBits .f32 0x42800000#32 = ((64 : ℝ) : EReal) := by
  simp [Ideal.ofBits, Ideal.ieee, -EReal.coe_mul]; norm_num

theorem bits_eps : Ideal.ofBits .f32 0x3727C5AC#32 = ((eps : ℝ) : EReal) := by
  simp [Ideal.ofBits, Ideal.ieee, -EReal.coe_mul, eps]; norm_num

theorem bits_half16 : Ideal.ofBits .bf16 0x3F00#16 = ((1 / 2 : ℝ) : EReal) := by
  simp [Ideal.ofBits, Ideal.ieee, -EReal.coe_mul]; norm_num

end Cert.Layer

end
-- ==== Proof.RefValue.lean ====
/- What the reference computes on finite arguments with no edge masked, read element by element. -/
module

public import proofs.«01_k».proof.Proof.Spec
public import proofs.«01_k».proof.Proof.Gen.ReferenceIdeal.Read

@[expose] public section

noncomputable section

namespace Cert.RefValue

open Idealize.ShloMosaic Cert.ReferenceIdeal Cert.ReferenceIdeal.Read Cert.Layer

variable (N : Nums)
  (x0 : (⟨S2x512x64, .f32⟩ : BufTy).Contents (Elt Ideal)) (x1 : (⟨S2x512x3, .f32⟩ : BufTy).Contents (Elt Ideal))
  (x2 : (⟨S2x512, .i1⟩ : BufTy).Contents (Elt Ideal)) (x3 : (⟨S129x258, .f32⟩ : BufTy).Contents (Elt Ideal))
  (x4 : (⟨S258, .f32⟩ : BufTy).Contents (Elt Ideal)) (x5 : (⟨S258x16, .f32⟩ : BufTy).Contents (Elt Ideal))
  (x6 : (⟨S16, .f32⟩ : BufTy).Contents (Elt Ideal)) (x7 : (⟨S16x64, .f32⟩ : BufTy).Contents (Elt Ideal))
  (x8 : (⟨S64, .f32⟩ : BufTy).Contents (Elt Ideal)) (x9 : (⟨S64x1, .f32⟩ : BufTy).Contents (Elt Ideal))
  (x10 : (⟨S1, .f32⟩ : BufTy).Contents (Elt Ideal)) (x11 : (⟨S80x128, .f32⟩ : BufTy).Contents (Elt Ideal))
  (x12 : (⟨S128, .f32⟩ : BufTy).Contents (Elt Ideal)) (x13 : (⟨S128x64, .f32⟩ : BufTy).Contents (Elt Ideal))
  (x14 x15 x16 : (⟨S64, .f32⟩ : BufTy).Contents (Elt Ideal))

/-- The arguments hold the numbers of `N` and the mask is set everywhere. -/
structure Reads : Prop where
  h0 : ∀ i : S2x512x64.Idx, x0 i = ((N.f (i 0) (i 1) (i 2) : ℝ) : EReal)
  h1 : ∀ i : S2x512x3.Idx, x1 i = ((N.c (i 0) (i 1) (i 2) : ℝ) : EReal)
  h2 : ∀ i : S2x512.Idx, x2 i = 1#1
  h3 : ∀ i : S129x258.Idx, x3 i = ((N.we1 (i 0) (i 1) : ℝ) : EReal)
  h4 : ∀ i : S258.Idx, x4 i = ((N.be1 (i 0) : ℝ) : EReal)
  h5 : ∀ i : S258x16.Idx, x5 i = ((N.we2 (i 0) (i 1) : ℝ) : EReal)
  h6 : ∀ i : S16.Idx, x6 i = ((N.be2 (i 0) : ℝ) : EReal)
  h7 : ∀ i : S16x64.Idx, x7 i = ((N.wc1 (i 0) (i 1) : ℝ) : EReal)
  h8 : ∀ i : S64.Idx, x8 i = ((N.bc1 (i 0) : ℝ) : EReal)
  h9 : ∀ i : S64x1.Idx, x9 i = ((N.wc2 (i 0) : ℝ) : EReal)
  h10 : ∀ i : S1.Idx, x10 i = ((N.bc2 : ℝ) : EReal)
  h11 : ∀ i : S80x128.Idx, x11 i = ((N.wn1 (i 0) (i 1) : ℝ) : EReal)
  h12 : ∀ i : S128.Idx, x12 i = ((N.bn1 (i 0) : ℝ) : EReal)
  h13 : ∀ i : S128x64.Idx, x13 i = N.wn2 (i 0) (i 1)
  h14 : ∀ i : S64.Idx, x14 i = N.bn2 (i 0)
  h15 : ∀ i : S64.Idx, x15 i = ((N.g (i 0) : ℝ) : EReal)
  h16 : ∀ i : S64.Idx, x16 i = ((N.bt (i 0) : ℝ) : EReal)

/-- The reference's silu of a number. -/
theorem silu_coe (x : ℝ) :
    (x : EReal) * Ideal.div (Ideal.ofBits .f32 0x3F800000#32) (Ideal.ofBits .f32 0x3F800000#32 + Ideal.exp (-(x : EReal)))
      = ((sil x : ℝ) : EReal) := by
  have h : (1 + Real.exp (-x)) ≠ 0 := by positivity
  rw [bits_one, ← EReal.coe_neg, exp_coe, ← EReal.coe_add, Ideal.div_coe h, ← EReal.coe_mul, ← EReal.coe_mul]
  simp [sil]

/-- A normalized number, dividing by the root. -/
theorem nrm_coe (a m v c d : ℝ) (h : 0 < v) :
    Ideal.div ((a : EReal) - (m : EReal)) ((Real.sqrt v : ℝ) : EReal) * (c : EReal) + (d : EReal)
      = (((a - m) * (1 / Real.sqrt v) * c + d : ℝ) : EReal) := by
  rw [← EReal.coe_sub, Ideal.div_coe (Real.sqrt_pos.2 h).ne', ← EReal.coe_mul, ← EReal.coe_mul, ← EReal.coe_add]

variable {N x0 x1 x2 x3 x4 x5 x6 x7 x8 x9 x10 x11 x12 x13 x14 x15 x16}

theorem rel_read (H1 : ∀ i : S2x512x3.Idx, x1 i = ((N.c (i 0) (i 1) (i 2) : ℝ) : EReal)) (i : S2x512x512x3.Idx) :
    val_main_v4 (F := Ideal) x1 i = ((N.c (i 0) (i 1) (i 3) - N.c (i 0) (i 2) (i 3) : ℝ) : EReal) := by
  rw [val_main_v4_apply, val_main_v2_apply, val_main_v3_apply, val_main_v0_apply, val_main_v1_apply, H1, H1]
  exact (EReal.coe_sub _ _).symm

theorem dist_read (H1 : ∀ i : S2x512x3.Idx, x1 i = ((N.c (i 0) (i 1) (i 2) : ℝ) : EReal)) (i : S2x512x512.Idx) :
    val_main_v6 (F := Ideal) x1 i = ((N.dist (i 0) (i 1) (i 2) : ℝ) : EReal) := by
  rw [val_main_v6_apply]
  have e : ∀ k : Fin 3, val_main_v5 (F := Ideal) x1 (idx_main_v6 i k)
      = (((N.c (i 0) (i 1) k - N.c (i 0) (i 2) k) * (N.c (i 0) (i 1) k - N.c (i 0) (i 2) k) : ℝ) : EReal) := fun k => by
    rw [val_main_v5_apply, rel_read H1]; exact (EReal.coe_mul _ _).symm
  rw [Finset.sum_congr rfl fun k _ => e k, coe_sum]
  show Ideal.ofBits .f32 0x00000000#32 + _ = _
  rw [bits_zero, ← EReal.coe_add, zero_add]; rfl

/-- The joined edge input: the row's features, the column's, the distance. -/
theorem edge_read (H0 : ∀ i : S2x512x64.Idx, x0 i = ((N.f (i 0) (i 1) (i 2) : ℝ) : EReal))
    (H1 : ∀ i : S2x512x3.Idx, x1 i = ((N.c (i 0) (i 1) (i 2) : ℝ) : EReal)) (i : S2x512x512x129.Idx) :
    val_main_v12 (F := Ideal) x0 x1 i = (((if h : (i 3).val < 64 then N.f (i 0) (i 1) ⟨(i 3).val, h⟩
      else if h' : (i 3).val < 128 then N.f (i 0) (i 2) ⟨(i 3).val - 64, by omega⟩ else N.dist (i 0) (i 1) (i 2) : ℝ)) : EReal) := by
  have hi : (i 3).val < 129 := (i 3).isLt
  unfold val_main_v12
  by_cases h : (i 3).val < 64
  · rw [dif_pos h]
    refine Eq.trans (concatenate_apply_piece (s₁ := S2x512x512x64) 3 _ _ i 0 (by simp) (val_main_v9 (F := Ideal) x0) rfl rfl 0 rfl
      (fun a => match a with | ⟨0, _⟩ => i 0 | ⟨1, _⟩ => i 1 | ⟨2, _⟩ => i 2 | ⟨3, _⟩ => ⟨(i 3).val, h⟩)
      (fun b hb => match b with | ⟨0, _⟩ => rfl | ⟨1, _⟩ => rfl | ⟨2, _⟩ => rfl | ⟨3, _⟩ => absurd rfl hb) (Nat.zero_add _)) ?_
    rw [val_main_v9_apply, val_main_v8_apply, H0]
    rfl
  · rw [dif_neg h]
    by_cases h' : (i 3).val < 128
    · rw [dif_pos h']
      refine Eq.trans (concatenate_apply_piece (s₁ := S2x512x512x64) 3 _ _ i 1 (by simp) (val_main_v11 (F := Ideal) x0) rfl rfl 64 rfl
        (fun a => match a with | ⟨0, _⟩ => i 0 | ⟨1, _⟩ => i 1 | ⟨2, _⟩ => i 2 | ⟨3, _⟩ => ⟨(i 3).val - 64, by show _ < 64; omega⟩)
        (fun b hb => match b with | ⟨0, _⟩ => rfl | ⟨1, _⟩ => rfl | ⟨2, _⟩ => rfl | ⟨3, _⟩ => absurd rfl hb)
        (by show 64 + ((i 3).val - 64) = (i 3).val; omega)) ?_
      rw [val_main_v11_apply, val_main_v10_apply, H0]
      rfl
    · rw [dif_neg h']
      refine Eq.trans (concatenate_apply_piece (s₁ := S2x512x512x1) 3 _ _ i 2 (by simp) (val_main_v7 (F := Ideal) x1) rfl rfl 128 rfl
        (fun a => match a with | ⟨0, _⟩ => i 0 | ⟨1, _⟩ => i 1 | ⟨2, _⟩ => i 2 | ⟨3, _⟩ => ⟨0, by show 0 < 1; omega⟩)
        (fun b hb => match b with | ⟨0, _⟩ => rfl | ⟨1, _⟩ => rfl | ⟨2, _⟩ => rfl | ⟨3, _⟩ => absurd rfl hb)
        (by show 128 + 0 = (i 3).val; omega)) ?_
      rw [val_main_v7_apply, dist_read H1]
      rfl

/-- A sum over 129 places split after 64 and 128. -/
theorem sum_129 (f : Fin 129 → ℝ) :
    ∑ k, f k = (∑ k : Fin 64, f ⟨k.val, by omega⟩) + (∑ k : Fin 64, f ⟨64 + k.val, by omega⟩) + f ⟨128, by omega⟩ := by
  rw [Fin.sum_univ_castSucc (n := 128), Fin.sum_univ_add (a := 64) (b := 64)]
  rfl

theorem pre_read (H : Reads N x0 x1 x2 x3 x4 x5 x6 x7 x8 x9 x10 x11 x12 x13 x14 x15 x16) (i : S2x512x512x258.Idx) :
    val_main_v16 (F := Ideal) x0 x1 x3 x4 i = ((N.pre (i 0) (i 1) (i 2) (i 3) : ℝ) : EReal) := by
  rw [val_main_v16_apply, val_main_v13_apply, val_main_v15_apply, val_main_v14_apply, H.h4]
  simp only [edge_read H.h0 H.h1, H.h3, ← EReal.coe_mul]
  rw [coe_sum]
  refine (EReal.coe_add _ _).symm.trans ?_
  rw [sum_129]
  congr 1

theorem mij_read (H : Reads N x0 x1 x2 x3 x4 x5 x6 x7 x8 x9 x10 x11 x12 x13 x14 x15 x16) (i : S2x512x512x16.Idx) :
    val_main_v34 (F := Ideal) x0 x1 x3 x4 x5 x6 i = ((N.mij (i 0) (i 1) (i 2) (i 3) : ℝ) : EReal) := by
  have hs : ∀ i, val_main_v23 (F := Ideal) x0 x1 x3 x4 i = ((sil (N.pre (i 0) (i 1) (i 2) (i 3)) : ℝ) : EReal) := fun i => by
    rw [val_main_v23_apply, val_main_v22_apply, val_main_v20_apply, val_main_v18_apply, val_main_v17_apply, pre_read H,
      val_main_v21_apply, val_main_v19_apply]
    exact silu_coe _
  have hp : ∀ i : S2x512x512x16.Idx, val_main_v27 (F := Ideal) x0 x1 x3 x4 x5 x6 i
      = (((∑ e : Fin 258, sil (N.pre (i 0) (i 1) (i 2) e) * N.we2 e (i 3)) + N.be2 (i 3) : ℝ) : EReal) := fun i => by
    rw [val_main_v27_apply, val_main_v24_apply, val_main_v26_apply, val_main_v25_apply, H.h6]
    simp only [hs, H.h5, ← EReal.coe_mul]
    rw [coe_sum]
    exact (EReal.coe_add _ _).symm
  rw [val_main_v34_apply, val_main_v33_apply, val_main_v31_apply, val_main_v29_apply, val_main_v28_apply, hp,
    val_main_v32_apply, val_main_v30_apply]
  exact silu_coe _

theorem cw_read (H : Reads N x0 x1 x2 x3 x4 x5 x6 x7 x8 x9 x10 x11 x12 x13 x14 x15 x16) (i : S2x512x512x1.Idx) :
    val_main_v54 (F := Ideal) x0 x1 x3 x4 x5 x6 x7 x8 x9 x10 i = ((N.cw (i 0) (i 1) (i 2) : ℝ) : EReal) := by
  have hp : ∀ i : S2x512x512x64.Idx, val_main_v43 (F := Ideal) x0 x1 x3 x4 x5 x6 x7 x8 i
      = (((∑ q : Fin 16, N.mij (i 0) (i 1) (i 2) q * N.wc1 q (i 3)) + N.bc1 (i 3) : ℝ) : EReal) := fun i => by
    rw [val_main_v43_apply, val_main_v40_apply, val_main_v42_apply, val_main_v41_apply, H.h8]
    simp only [mij_read H, H.h7, ← EReal.coe_mul]
    rw [coe_sum]
    exact (EReal.coe_add _ _).symm
  have hs : ∀ i, val_main_v50 (F := Ideal) x0 x1 x3 x4 x5 x6 x7 x8 i = ((N.chid (i 0) (i 1) (i 2) (i 3) : ℝ) : EReal) := fun i => by
    rw [val_main_v50_apply, val_main_v49_apply, val_main_v47_apply, val_main_v45_apply, val_main_v44_apply, hp,
      val_main_v48_apply, val_main_v46_apply]
    exact silu_coe _
  rw [val_main_v54_apply, val_main_v51_apply, val_main_v53_apply, val_main_v52_apply, H.h10]
  simp only [hs, H.h9, ← EReal.coe_mul]
  rw [coe_sum]
  exact (EReal.coe_add _ _).symm

theorem mask_read (H : Reads N x0 x1 x2 x3 x4 x5 x6 x7 x8 x9 x10 x11 x12 x13 x14 x15 x16) (i : S2x512x512.Idx) :
    val_main_v39 (F := Ideal) x2 i = 1#1 := by
  rw [val_main_v39_apply, val_main_v37_apply, val_main_v38_apply, val_main_v35_apply, val_main_v36_apply, H.h2, H.h2]
  rfl

/-- The reference's coordinates. -/
theorem coor_read (H : Reads N x0 x1 x2 x3 x4 x5 x6 x7 x8 x9 x10 x11 x12 x13 x14 x15 x16) (i : S2x512x3.Idx) :
    val_main_v58 (F := Ideal) x0 x1 x2 x3 x4 x5 x6 x7 x8 x9 x10 i = ((N.coor (i 0) (i 1) (i 2) : ℝ) : EReal) := by
  have hw : ∀ i, val_main_v56 (F := Ideal) x0 x1 x2 x3 x4 x5 x6 x7 x8 x9 x10 i = ((N.cw (i 0) (i 1) (i 2) : ℝ) : EReal) := fun i => by
    rw [val_main_v56_apply, mask_read H, ValueIdx.select_one, val_main_v55_apply, cw_read H]
    have h0 : (i 0).val < 2 := (i 0).isLt
    have h1 : (i 1).val < 512 := (i 1).isLt
    have h2 : (i 2).val < 512 := (i 2).isLt
    have e0 : idx_main_v55 i 0 = i 0 := Fin.ext (by show (((i 0).val * 512 + (i 1).val) * 512 + (i 2).val) / 262144 = (i 0).val; omega)
    have e1 : idx_main_v55 i 1 = i 1 := Fin.ext (by show (((i 0).val * 512 + (i 1).val) * 512 + (i 2).val) / 512 % 512 = (i 1).val; omega)
    have e2 : idx_main_v55 i 2 = i 2 := Fin.ext (by show (((i 0).val * 512 + (i 1).val) * 512 + (i 2).val) / 1 % 512 = (i 2).val; omega)
    rw [e0, e1, e2]
  rw [val_main_v58_apply, val_main_v57_apply, H.h1]
  simp only [hw, rel_read H.h1, ← EReal.coe_mul]
  rw [coe_sum]
  exact (EReal.coe_add _ _).symm

theorem mi_read (H : Reads N x0 x1 x2 x3 x4 x5 x6 x7 x8 x9 x10 x11 x12 x13 x14 x15 x16) (i : S2x512x16.Idx) :
    val_main_v61 (F := Ideal) x0 x1 x2 x3 x4 x5 x6 i = ((N.mi (i 0) (i 1) (i 2) : ℝ) : EReal) := by
  have hw : ∀ i, val_main_v60 (F := Ideal) x0 x1 x2 x3 x4 x5 x6 i = ((N.mij (i 0) (i 1) (i 2) (i 3) : ℝ) : EReal) := fun i => by
    rw [val_main_v60_apply, val_main_call1_v1_apply, val_main_v59_apply, mask_read H, ValueIdx.select_one, mij_read H]
  rw [val_main_v61_apply]
  simp only [hw]
  rw [coe_sum]
  show Ideal.ofBits .f32 0x00000000#32 + _ = _
  rw [bits_zero, ← EReal.coe_add, zero_add]; rfl

/-- The mean of a row, and the mean of its squared differences, as the reference computes them. -/
theorem var_read (H0 : ∀ i : S2x512x64.Idx, x0 i = ((N.f (i 0) (i 1) (i 2) : ℝ) : EReal)) (i : S2x512x1.Idx) :
    val_main_v66 (F := Ideal) x0 i = ((N.var (i 0) (i 1) : ℝ) : EReal) := by
  have hz : FloatOps.sitofp (F := Ideal) .f32 (0#32) = ((0 : ℝ) : EReal) := by
    show (((0#32 : BitVec 32).toInt : ℝ) : EReal) = _
    norm_num
  have hd : ∀ j : S_.Idx, val_main_call2_v8 (F := Ideal) j = ((64 : ℝ) : EReal) := fun j => by
    rw [val_main_call2_v8_apply, val_main_call2_cst_1_apply, val_main_call2_v7_apply, val_main_c_apply, hz]
    show Ideal.ofBits .f32 0x42800000#32 - _ = _
    rw [bits_64, ← EReal.coe_sub, sub_zero]
  have hc : ∀ j : S_.Idx, val_main_call2_v13 (F := Ideal) j = 1#1 := fun j => by
    rw [val_main_call2_v13_apply, hd, val_main_call2_cst_3_apply]
    show Ideal.cmp .ogt ((64 : ℝ) : EReal) (Ideal.ofBits .f32 0x00000000#32) = 1#1
    rw [bits_zero]
    simp [Ideal.cmp]
  have hm : ∀ j, val_main_call2_v4 (F := Ideal) x0 j = ((N.mu (j 0) (j 1) : ℝ) : EReal) := fun j => by
    rw [val_main_call2_v4_apply, val_main_call2_v3_apply, val_main_call2_v1_apply, val_main_call2_v0_apply,
      val_main_call2_v2_apply, val_main_call2_cst_0_apply]
    simp only [H0]
    rw [coe_sum]
    show Ideal.div (Ideal.ofBits .f32 0x00000000#32 + _) (Ideal.ofBits .f32 0x42800000#32) = _
    rw [bits_zero, bits_64, ← EReal.coe_add, zero_add, Ideal.div_coe (by norm_num), ← EReal.coe_mul]
    rfl
  have h12 : val_main_call2_v12 (F := Ideal) x0 i = ((N.var (i 0) (i 1) : ℝ) : EReal) := by
    rw [val_main_call2_v12_apply, val_main_call2_v10_apply, val_main_call2_v9_apply, val_main_call2_v11_apply, hd]
    have e : ∀ j, val_main_call2_v6 (F := Ideal) x0 j
        = (((N.f (j 0) (j 1) (j 2) - N.mu (j 0) (j 1)) * (N.f (j 0) (j 1) (j 2) - N.mu (j 0) (j 1)) : ℝ) : EReal) := fun j => by
      rw [val_main_call2_v6_apply, val_main_call2_v5_apply, H0, hm]
      exact (congrArg₂ (· * ·) (EReal.coe_sub _ _).symm (EReal.coe_sub _ _).symm).trans (EReal.coe_mul _ _).symm
    simp only [e]
    rw [coe_sum]
    show Ideal.div (Ideal.ofBits .f32 0x00000000#32 + _) ((64 : ℝ) : EReal) = _
    rw [bits_zero, ← EReal.coe_add, zero_add, Ideal.div_coe (by norm_num), ← EReal.coe_mul]
    rfl
  unfold val_main_v66
  refine (ValueIdx.select_apply _ _ _ i).trans ?_
  refine Eq.trans (congrArg (fun b => Scalar.select b _ _) (hc _)) ?_
  exact (ValueIdx.select_one _ _).trans h12

theorem nrm_read (H : Reads N x0 x1 x2 x3 x4 x5 x6 x7 x8 x9 x10 x11 x12 x13 x14 x15 x16) (i : S2x512x64.Idx) :
    val_main_v79 (F := Ideal) x0 x15 x16 i = ((N.nrm (i 0) (i 1) (i 2) : ℝ) : EReal) := by
  have hm : ∀ j, val_main_v65 (F := Ideal) x0 j = ((N.mu (j 0) (j 1) : ℝ) : EReal) := fun j => by
    rw [val_main_v65_apply, val_main_v63_apply, val_main_v62_apply, val_main_v64_apply, val_main_cst_10_apply]
    simp only [H.h0]
    rw [coe_sum]
    show Ideal.div (Ideal.ofBits .f32 0x00000000#32 + _) (Ideal.ofBits .f32 0x42800000#32) = _
    rw [bits_zero, bits_64, ← EReal.coe_add, zero_add, Ideal.div_coe (by norm_num), ← EReal.coe_mul]
    rfl
  have hs : ∀ j, val_main_v71 (F := Ideal) x0 j = ((Real.sqrt (N.var (j 0) (j 1) + eps) : ℝ) : EReal) := fun j => by
    rw [val_main_v71_apply, val_main_v70_apply, var_read H.h0, val_main_v69_apply, val_main_cst_11_apply]
    show Ideal.sqrt (((N.var (j 0) (j 1) : ℝ) : EReal) + Ideal.ofBits .f32 0x3727C5AC#32) = _
    rw [bits_eps, ← EReal.coe_add]
    exact if_neg (not_lt.2 (N.var_eps_pos _ _).le)
  rw [val_main_v79_apply, val_main_v76_apply, val_main_v73_apply, val_main_v68_apply, val_main_v67_apply, hm,
    val_main_v72_apply, hs, val_main_v75_apply, val_main_v74_apply, val_main_v78_apply, val_main_v77_apply, H.h0, H.h15, H.h16]
  exact nrm_coe _ _ _ _ _ (N.var_eps_pos _ _)

/-- The reference's node features. -/
theorem node_read (H : Reads N x0 x1 x2 x3 x4 x5 x6 x7 x8 x9 x10 x11 x12 x13 x14 x15 x16) (i : S2x512x64.Idx) :
    val_main_v96 (F := Ideal) x0 x1 x2 x3 x4 x5 x6 x11 x12 x13 x14 x15 x16 i = N.node (i 0) (i 1) (i 2) := by
  have hj : ∀ j : S2x512x80.Idx, val_main_v80 (F := Ideal) x0 x1 x2 x3 x4 x5 x6 x15 x16 j
      = (((if h : (j 2).val < 64 then N.nrm (j 0) (j 1) ⟨(j 2).val, h⟩
        else N.mi (j 0) (j 1) ⟨(j 2).val - 64, by have : (j 2).val < 80 := (j 2).isLt; omega⟩ : ℝ)) : EReal) := fun j => by
    have hj2 : (j 2).val < 80 := (j 2).isLt
    unfold val_main_v80
    by_cases h : (j 2).val < 64
    · rw [dif_pos h]
      refine Eq.trans (concatenate_apply_piece (s₁ := S2x512x64) 2 _ _ j 0 (by simp) (val_main_v79 (F := Ideal) x0 x15 x16) rfl rfl 0 rfl
        (fun a => match a with | ⟨0, _⟩ => j 0 | ⟨1, _⟩ => j 1 | ⟨2, _⟩ => ⟨(j 2).val, h⟩)
        (fun b hb => match b with | ⟨0, _⟩ => rfl | ⟨1, _⟩ => rfl | ⟨2, _⟩ => absurd rfl hb) (Nat.zero_add _)) ?_
      rw [nrm_read H]
      rfl
    · rw [dif_neg h]
      refine Eq.trans (concatenate_apply_piece (s₁ := S2x512x16) 2 _ _ j 1 (by simp) (val_main_v61 (F := Ideal) x0 x1 x2 x3 x4 x5 x6) rfl rfl 64 rfl
        (fun a => match a with | ⟨0, _⟩ => j 0 | ⟨1, _⟩ => j 1 | ⟨2, _⟩ => ⟨(j 2).val - 64, by show _ < 16; omega⟩)
        (fun b hb => match b with | ⟨0, _⟩ => rfl | ⟨1, _⟩ => rfl | ⟨2, _⟩ => absurd rfl hb)
        (by show 64 + ((j 2).val - 64) = (j 2).val; omega)) ?_
      rw [mi_read H]
      rfl
  have hp : ∀ j : S2x512x128.Idx, val_main_v84 (F := Ideal) x0 x1 x2 x3 x4 x5 x6 x11 x12 x15 x16 j
      = (((∑ k : Fin 64, N.nrm (j 0) (j 1) k * N.wn1 ⟨k.val, by omega⟩ (j 2))
          + (∑ q : Fin 16, N.mi (j 0) (j 1) q * N.wn1 ⟨64 + q.val, by omega⟩ (j 2)) + N.bn1 (j 2) : ℝ) : EReal) := fun j => by
    rw [val_main_v84_apply, val_main_v81_apply, val_main_v83_apply, val_main_v82_apply, H.h12]
    simp only [hj, H.h11, ← EReal.coe_mul]
    rw [coe_sum]
    refine (EReal.coe_add _ _).symm.trans ?_
    rw [sum_80]
    congr 1
  have hs : ∀ j, val_main_v91 (F := Ideal) x0 x1 x2 x3 x4 x5 x6 x11 x12 x15 x16 j = ((N.hid (j 0) (j 1) (j 2) : ℝ) : EReal) := fun j => by
    rw [val_main_v91_apply, val_main_v90_apply, val_main_v88_apply, val_main_v86_apply, val_main_v85_apply, hp,
      val_main_v89_apply, val_main_v87_apply]
    exact silu_coe _
  rw [val_main_v96_apply, val_main_v95_apply, val_main_v92_apply, val_main_v94_apply, val_main_v93_apply, H.h0, H.h14]
  simp only [hs, H.h13]
  rfl

end Cert.RefValue

end
-- ==== Proof.Rows.lean ====
/- One row of the edge network as a function of its row number, and the pieces the two cases of the body
   store into the two scratch arrays as one family over the row numbers. -/
module

public import proofs.«01_k».proof.Proof.Gen.KernelIdeal.Frame
public import Idealize.ShloMosaic.Lib.Pipeline.Value
public import Idealize.ShloMosaic.Lib.Pipeline.ValueKit.Tiles

@[expose] public section

noncomputable section

namespace Cert.KernelIdeal.Rows

open Idealize.ShloMosaic Idealize.ShloMosaic.TcCoe Idealize.SL.Sem Cert.KernelIdeal.Gen

variable {F : FTy → Type} [FloatOps F]

theorem colSlice (k : Fin 128) : S258x128.Slices ![0, (k : ℕ)] S258x1 := by
  revert k; decide
theorem rowSlice (k : Fin 128) : S128x512.Slices ![(k : ℕ), 0] S1x512 := by
  revert k; decide
theorem rowIn (k : Fin 128) : ∀ a, (![(k : ℕ), 0] : Fin 2 → ℕ) a + S1x512.size a ≤ S128x512.size a := by
  revert k; decide
theorem colIn (k : Fin 128) : ∀ a, (![0, (k : ℕ)] : Fin 2 → ℕ) a + S16x1.size a ≤ S16x128.size a := by
  revert k; decide

/-- The half-argument silu of row `k`'s hidden layer. -/
def rowH (v14 : FVec F S258x128 .f32) (v33 : FVec F S128x512 .f32) (v34 : FVec F S258x512 .bf16)
    (v36 : FVec F S258x1 .f32) (k : Fin 128) : FVec F S258x512 .bf16 :=
  have u : FVec F S258x512 .bf16 := addf v34 (truncf .bf16
    (addf (broadcastTo S258x512 (extractStridedSlice S258x1 ![0, (k : ℕ)] v14 (colSlice k)) broadcasts_S258x1_S258x512)
      (mulf (broadcastTo S258x512 (extractStridedSlice S1x512 ![(k : ℕ), 0] v33 (rowSlice k)) broadcasts_S1x512_S258x512)
        (broadcastTo S258x512 v36 broadcasts_S258x1_S258x512))) bitsLt_bf16_f32)
  addf u (mulf u (tanh u))

/-- Row `k`'s messages before the silu. -/
def rowM (v14 : FVec F S258x128 .f32) (v33 : FVec F S128x512 .f32) (v34 : FVec F S258x512 .bf16)
    (v36 : FVec F S258x1 .f32) (v38 : FVec F S16x258 .bf16) (v40 : FVec F S16x512 .f32) (k : Fin 128) :
    FVec F S16x512 .f32 :=
  addf (matmul dot_S16x258_S258x512_S16x512_1_0_0_1_n_n none v38 (rowH v14 v33 v34 v36 k)
    (constant S16x512 .f32 0x00000000#32)) v40

/-- The messages. -/
def msg (x : FVec F S16x512 .f32) : FVec F S16x512 .f32 :=
  have h : FVec F S16x512 .f32 := mulf (broadcast S16x512 (Scalar.ofBits .f32 0x3F000000#32)) x
  addf h (mulf h (tanh h))

/-- The messages summed over the columns. -/
def msgSum (x : FVec F S16x512 .f32) : FVec F S16x1 .f32 :=
  shapeCast S16x1 (shapeCast S16x1 (multiReduction .add [1] S16 (msg x) 0x00000000#32 reduces_S16x512_S16 (.inl rfl) rfl)
    shapeCasts_S16_S16x1) shapeCasts_S16x1_S16x1

/-- The coordinate weights of one row out of its messages before the silu. -/
def wgt (v42 : FVec F S64x16 .bf16) (v44 : FVec F S64x512 .f32) (v46 : FVec F S1x64 .bf16) (v48 : F .f32)
    (x : FVec F S16x512 .f32) : FVec F S1x512 .f32 :=
  have h : FVec F S64x512 .bf16 := mulf (broadcast S64x512 (Scalar.ofBits .bf16 0x3F00#16))
    (truncf .bf16 (addf (matmul dot_S64x16_S16x512_S64x512_1_0_0_1_n_n none v42 (truncf .bf16 (msg x) bitsLt_bf16_f32)
      (constant S64x512 .f32 0x00000000#32)) v44) bitsLt_bf16_f32)
  shapeCast S1x512 (addf (matmul dot_S1x64_S64x512_S1x512_1_0_0_1_n_n none v46 (addf h (mulf h (tanh h)))
    (constant S1x512 .f32 0x00000000#32)) (broadcast S1x512 v48)) shapeCasts_S1x512_S1x512

/-- The rows of coordinate weights, last row first. -/
def wPieces (v14 : FVec F S258x128 .f32) (v33 : FVec F S128x512 .f32) (v34 : FVec F S258x512 .bf16)
    (v36 : FVec F S258x1 .f32) (v38 : FVec F S16x258 .bf16) (v40 : FVec F S16x512 .f32)
    (v42 : FVec F S64x16 .bf16) (v44 : FVec F S64x512 .f32) (v46 : FVec F S1x64 .bf16) (v48 : F .f32) :
    List (View.Piece (Elt F) S128x512 .f32) :=
  List.ofFn fun k : Fin 128 => ⟨Rect.unit ![((Fin.rev k : Fin 128) : ℕ), 0] S1x512.size (rowIn (Fin.rev k)),
    wgt v42 v44 v46 v48 (rowM v14 v33 v34 v36 v38 v40 (Fin.rev k))⟩

/-- The columns of summed messages, last column first. -/
def mPieces (v14 : FVec F S258x128 .f32) (v33 : FVec F S128x512 .f32) (v34 : FVec F S258x512 .bf16)
    (v36 : FVec F S258x1 .f32) (v38 : FVec F S16x258 .bf16) (v40 : FVec F S16x512 .f32) :
    List (View.Piece (Elt F) S16x128 .f32) :=
  List.ofFn fun k : Fin 128 => ⟨Rect.unit ![0, ((Fin.rev k : Fin 128) : ℕ)] S16x1.size (colIn (Fin.rev k)),
    msgSum (rowM v14 v33 v34 v36 v38 v40 (Fin.rev k))⟩

/-- The rows of weights from the blocks: `T` the tile's features, `C` its coordinates, `A` the column part of
    the hidden layer. -/
def wTile (T : Vec F S1x128x64 .f32) (C : Vec F S1x128x8 .f32) (A : Vec F S258x512 .bf16) (x3 : Vec F S1x8x512 .f32)
    (x4 : Vec F S64x258 .f32) (x6 : Vec F S1x258 .f32) (x7 : Vec F S258x1 .f32) (x8 : Vec F S16x258 .bf16)
    (x9 : Vec F S16x512 .f32) (x10 : Vec F S64x16 .bf16) (x11 : Vec F S64x512 .f32) (x12 : Vec F S1x64 .bf16)
    (x13 : Vec F S1x1 .f32) : List (View.Piece (Elt F) S128x512 .f32) :=
  wPieces (k0_pay4 T x4 x6) (k0_pay6 C x3) A (k0_pay7 x7) (k0_pay8 x8) (k0_pay9 x9) (k0_pay10 x10) (k0_pay11 x11)
    (k0_pay12 x12) (k0_pay13 x13)

/-- The columns of summed messages from the blocks. -/
def mTile (T : Vec F S1x128x64 .f32) (C : Vec F S1x128x8 .f32) (A : Vec F S258x512 .bf16) (x3 : Vec F S1x8x512 .f32)
    (x4 : Vec F S64x258 .f32) (x6 : Vec F S1x258 .f32) (x7 : Vec F S258x1 .f32) (x8 : Vec F S16x258 .bf16)
    (x9 : Vec F S16x512 .f32) : List (View.Piece (Elt F) S16x128 .f32) :=
  mPieces (k0_pay4 T x4 x6) (k0_pay6 C x3) A (k0_pay7 x7) (k0_pay8 x8) (k0_pay9 x9)

/-- The node output of a tile from its features and its summed messages. -/
def nodeTile (T : Vec F S1x128x64 .f32) (M : Vec F S16x128 .f32) (x14 : Vec F S80x128 .f32) (x15 : Vec F S1x128 .f32)
    (x16 : Vec F S128x64 .f32) (x17 x18 x19 : Vec F S1x64 .f32) : Vec F S1x128x64 .f32 :=
  k0_pay1 (k0_pay3 T) (k0_pay726 M) (k0_pay730 (k0_pay3 T) (k0_pay728 (k0_pay3 T)) (k0_pay729 (k0_pay3 T)))
    x18 x19 x14 x15 x16 x17

/-- The coordinate output of a tile from its coordinates, its weights and all the coordinates. -/
def coorTile (C : Vec F S1x128x8 .f32) (W : Vec F S128x512 .f32) (x2 : Vec F S1x512x8 .f32) : Vec F S1x128x8 .f32 :=
  k0_pay725 (k0_pay5 C) W x2

/-- A load of the whole of a buffer that holds `x` reads `x`. -/
theorem read_whole {s : Shape} {e : EltTy} (a : Memref sig .tc .vmem s e) (h : a.IsWhole) (x : Vec F s e)
    {off : Fin s.rank → ℕ} (ho : off = fun _ => 0) (inb : ∀ b, off b + s.size b ≤ s.size b) :
    View.readAt (Elt F) a.view (Rect.unit off s.size inb).toLoadRect (h.unread x) = x := by
  rw [View.readAt_eq_ld, h.read_unread, View.ld_unit_zero ho]

/-- A load of a rectangle of a buffer that holds `x` reads that rectangle of `x`. -/
theorem read_rect {s : Shape} {e : EltTy} (a : Memref sig .tc .vmem s e) (h : a.IsWhole) (x : Vec F s e) (r : Rect s) :
    View.readAt (Elt F) a.view r.toLoadRect (h.unread x) = View.ld x r := by
  rw [View.readAt_eq_ld, h.read_unread]

theorem zero2 : (![0, 0] : Fin 2 → ℕ) = fun _ => 0 := by funext a; fin_cases a <;> rfl
theorem zero3 : (![0, 0, 0] : Fin 3 → ℕ) = fun _ => 0 := by funext a; fin_cases a <;> rfl

/-- A load of the whole of a buffer after a list of stores. -/
theorem readCov_whole {s : Shape} {e : EltTy} (v : View sig .tc .vmem s e) (L : List (View.Piece (Elt F) s e))
    {off : Fin s.rank → ℕ} (ho : off = fun _ => 0) (inb : ∀ b, off b + s.size b ≤ s.size b) :
    v.readCov L (Rect.unit off s.size inb).toLoadRect = View.canon L := by
  rw [View.readCov_eq_canon']
  exact View.ld_unit_zero ho inb (View.canon L)

/-- What one store of a whole matrix leaves. -/
theorem canon_whole2 {d0 d1 : ℕ} {e : EltTy} (inb : ∀ b, (![0, 0] : Fin 2 → ℕ) b + (![d0, d1] : Fin 2 → ℕ) b ≤ (![d0, d1] : Fin 2 → ℕ) b)
    (w : Vec F ⟨2, ![d0, d1]⟩ e) :
    View.canon [(⟨Rect.unit (s := ⟨2, ![d0, d1]⟩) ![0, 0] ![d0, d1] inb, w⟩ : View.Piece (Elt F) ⟨2, ![d0, d1]⟩ e)] = w :=
  View.canon_unit_zero (S := ⟨2, ![d0, d1]⟩) zero2 inb w

end Cert.KernelIdeal.Rows

end
-- ==== Proof.Point.lean ====
/- What one point of the grid computes from its blocks, read element by element: the numbers of `Spec.lean`. -/
module

public import proofs.«01_k».proof.Proof.Spec
public import proofs.«01_k».proof.Proof.Rows
public import Idealize.ShloMosaic.Lib.MatmulPlain
public import Idealize.ShloMosaic.Lib.ValueIdx

@[expose] public section

noncomputable section

namespace Cert.KernelIdeal.Point

open Idealize.ShloMosaic Idealize.ShloMosaic.ValueIdx Cert.KernelIdeal.Gen Cert.KernelIdeal.Rows Cert.Layer

/-! ## Layout operations read at an index -/

section Layout
variable {α : Type} {m n : ℕ}

theorem bc_col (x : (⟨2, ![m, 1]⟩ : Shape).Idx → α) (h : (⟨2, ![m, 1]⟩ : Shape).Broadcasts ⟨2, ![m, n]⟩)
    (i : (⟨2, ![m, n]⟩ : Shape).Idx) : broadcastTo ⟨2, ![m, n]⟩ x h i = x (ix2 (i 0) (0 : Fin 1)) := by
  refine broadcastTo_apply x h i _ fun a => ?_
  match a with
  | ⟨0, _⟩ =>
    show (i 0).val = if m = 1 then 0 else (i 0).val
    have := (i 0).isLt
    split
    · rename_i h1
      have h2 : (i 0).val < m := this
      omega
    · rfl
  | ⟨1, _⟩ => rfl

theorem bc_row (x : (⟨2, ![1, n]⟩ : Shape).Idx → α) (h : (⟨2, ![1, n]⟩ : Shape).Broadcasts ⟨2, ![m, n]⟩)
    (i : (⟨2, ![m, n]⟩ : Shape).Idx) : broadcastTo ⟨2, ![m, n]⟩ x h i = x (ix2 (0 : Fin 1) (i 1)) := by
  refine broadcastTo_apply x h i _ fun a => ?_
  match a with
  | ⟨0, _⟩ => rfl
  | ⟨1, _⟩ =>
    show (i 1).val = if n = 1 then 0 else (i 1).val
    have := (i 1).isLt
    split
    · rename_i h1
      have h2 : (i 1).val < n := this
      omega
    · rfl

theorem slice_col (x : (⟨2, ![m, n]⟩ : Shape).Idx → α) (k : Fin n) (h : (⟨2, ![m, n]⟩ : Shape).Slices ![0, (k : ℕ)] ⟨2, ![m, 1]⟩)
    (i : (⟨2, ![m, 1]⟩ : Shape).Idx) : extractStridedSlice ⟨2, ![m, 1]⟩ ![0, (k : ℕ)] x h i = x (ix2 (i 0) k) := by
  refine extractStridedSlice_apply _ x h i _ fun a => ?_
  match a with
  | ⟨0, _⟩ => exact (Nat.zero_add _).symm
  | ⟨1, _⟩ =>
    have h1 : (i 1).val < 1 := (i 1).isLt
    show k.val = k.val + (i 1).val
    omega

theorem slice_row (x : (⟨2, ![m, n]⟩ : Shape).Idx → α) (k : Fin m) (h : (⟨2, ![m, n]⟩ : Shape).Slices ![(k : ℕ), 0] ⟨2, ![1, n]⟩)
    (i : (⟨2, ![1, n]⟩ : Shape).Idx) : extractStridedSlice ⟨2, ![1, n]⟩ ![(k : ℕ), 0] x h i = x (ix2 k (i 1)) := by
  refine extractStridedSlice_apply _ x h i _ fun a => ?_
  match a with
  | ⟨0, _⟩ =>
    have h1 : (i 0).val < 1 := (i 0).isLt
    show k.val = k.val + (i 0).val
    omega
  | ⟨1, _⟩ => exact (Nat.zero_add _).symm

theorem transpose2 (x : (⟨2, ![m, n]⟩ : Shape).Idx → α) (h : (⟨2, ![m, n]⟩ : Shape).Transposes [1, 0] ⟨2, ![n, m]⟩)
    (i : (⟨2, ![n, m]⟩ : Shape).Idx) : transpose ⟨2, ![n, m]⟩ [1, 0] x h i = x (ix2 (i 1) (i 0)) := by
  refine transpose_apply _ x h i _ fun a => ?_
  match a with
  | ⟨0, _⟩ => rfl
  | ⟨1, _⟩ => rfl

/-- A vector as one column. -/
theorem cast_col (x : (⟨1, ![m]⟩ : Shape).Idx → α) (h : (⟨1, ![m]⟩ : Shape).ShapeCasts ⟨2, ![m, 1]⟩)
    (i : (⟨2, ![m, 1]⟩ : Shape).Idx) : shapeCast ⟨2, ![m, 1]⟩ x h i = x (ix1 (i 0)) := by
  refine shapeCast_apply x h i _ ?_
  rw [Shape.rowMajor_val_one, Shape.rowMajor_val_two]
  have h1 : (i 1).val < 1 := (i 1).isLt
  show (i 0).val = (i 0).val * 1 + (i 1).val
  omega

/-- A vector as one row. -/
theorem cast_row (x : (⟨1, ![n]⟩ : Shape).Idx → α) (h : (⟨1, ![n]⟩ : Shape).ShapeCasts ⟨2, ![1, n]⟩)
    (i : (⟨2, ![1, n]⟩ : Shape).Idx) : shapeCast ⟨2, ![1, n]⟩ x h i = x (ix1 (i 1)) := by
  refine shapeCast_apply x h i _ ?_
  rw [Shape.rowMajor_val_one, Shape.rowMajor_val_two]
  have h1 : (i 0).val < 1 := (i 0).isLt
  have h0 : (i 0).val = 0 := by omega
  show (i 1).val = (i 0).val * n + (i 1).val
  rw [h0]; omega

/-- A block of one matrix as the matrix. -/
theorem cast_drop (x : (⟨3, ![1, m, n]⟩ : Shape).Idx → α) (h : (⟨3, ![1, m, n]⟩ : Shape).ShapeCasts ⟨2, ![m, n]⟩)
    (i : (⟨2, ![m, n]⟩ : Shape).Idx) : shapeCast ⟨2, ![m, n]⟩ x h i = x (ix3 (0 : Fin 1) (i 0) (i 1)) := by
  refine shapeCast_apply x h i _ ?_
  rw [Shape.rowMajor_val_three, Shape.rowMajor_val_two]
  show (0 * m + (i 0).val) * n + (i 1).val = (i 0).val * n + (i 1).val
  rw [Nat.zero_mul, Nat.zero_add]

/-- A matrix as a block of one. -/
theorem cast_add (x : (⟨2, ![m, n]⟩ : Shape).Idx → α) (h : (⟨2, ![m, n]⟩ : Shape).ShapeCasts ⟨3, ![1, m, n]⟩)
    (i : (⟨3, ![1, m, n]⟩ : Shape).Idx) : shapeCast ⟨3, ![1, m, n]⟩ x h i = x (ix2 (i 1) (i 2)) := by
  refine shapeCast_apply x h i _ ?_
  rw [Shape.rowMajor_val_three, Shape.rowMajor_val_two]
  have h1 : (i 0).val < 1 := (i 0).isLt
  have h0 : (i 0).val = 0 := by omega
  show (i 1).val * n + (i 2).val = ((i 0).val * m + (i 1).val) * n + (i 2).val
  rw [h0, Nat.zero_mul, Nat.zero_add]

end Layout

/-- A product of two matrices of numbers into zeros. -/
theorem mm {M K P : ℕ} {φ₁ φ₂ : FTy} (prec : Option ContractPrecision)
    (x : FVec Ideal ⟨2, ![M, K]⟩ φ₁) (y : FVec Ideal ⟨2, ![K, P]⟩ φ₂) (a : Fin M → Fin K → ℝ) (b : Fin K → Fin P → ℝ)
    (hx : ∀ i, x i = ((a (i 0) (i 1) : ℝ) : EReal)) (hy : ∀ i, y i = ((b (i 0) (i 1) : ℝ) : EReal))
    (i : (⟨2, ![M, P]⟩ : Shape).Idx) :
    FloatOps.matmul (DotDims.plain M K P) prec x y (constant (F := Ideal) ⟨2, ![M, P]⟩ .f32 0x00000000#32) i
      = ((∑ k : Fin K, a (i 0) k * b k (i 1) : ℝ) : EReal) := by
  refine (congrArg _ (eq_ix2 i)).trans ((Ideal.matmul_plain_apply prec x y _ (i 0) (i 1)).trans ?_)
  show Ideal.ofBits .f32 0x00000000#32 + _ = _
  rw [bits_zero, EReal.coe_zero, zero_add, ← coe_sum]
  refine Finset.sum_congr rfl fun k _ => ?_
  rw [hx, hy, ← EReal.coe_mul]
  rfl

/-- A sum of a matrix of numbers along its rows. -/
theorem sum_rows {M K : ℕ} {φ : FTy} (x : FVec Ideal ⟨2, ![M, K]⟩ φ) (a : Fin M → Fin K → ℝ)
    (hx : ∀ i, x i = ((a (i 0) (i 1) : ℝ) : EReal)) (acc : BitVec φ.bits)
    (h : (⟨2, ![M, K]⟩ : Shape).Reduces [1] ⟨1, ![M]⟩) (hφ : FKind.Formats φ) (hacc : acc = FKind.add.neutral φ hφ)
    (i : (⟨1, ![M]⟩ : Shape).Idx) :
    multiReduction .add [1] ⟨1, ![M]⟩ x acc h hφ hacc i = ((∑ k : Fin K, a (i 0) k : ℝ) : EReal) := by
  rw [Ideal.multiReduction_add_single, ← coe_sum]
  refine Finset.sum_congr rfl fun k _ => ?_
  rw [hx]
  rfl

/-- A sum of a matrix of numbers along its columns. -/
theorem sum_cols {M K : ℕ} {φ : FTy} (x : FVec Ideal ⟨2, ![K, M]⟩ φ) (a : Fin K → Fin M → ℝ)
    (hx : ∀ i, x i = ((a (i 0) (i 1) : ℝ) : EReal)) (acc : BitVec φ.bits)
    (h : (⟨2, ![K, M]⟩ : Shape).Reduces [0] ⟨1, ![M]⟩) (hφ : FKind.Formats φ) (hacc : acc = FKind.add.neutral φ hφ)
    (i : (⟨1, ![M]⟩ : Shape).Idx) :
    multiReduction .add [0] ⟨1, ![M]⟩ x acc h hφ hacc i = ((∑ k : Fin K, a k (i 0) : ℝ) : EReal) := by
  rw [Ideal.multiReduction_add_single, ← coe_sum]
  refine Finset.sum_congr rfl fun k _ => ?_
  rw [hx]
  rfl

/-- The silu of a number by its half. -/
theorem half_coe (x : ℝ) : (((x * (1 / 2) : ℝ) : EReal) + ((x * (1 / 2) : ℝ) : EReal) * Ideal.tanh ((x * (1 / 2) : ℝ) : EReal))
    = ((sil x : ℝ) : EReal) := by
  rw [tanh_coe, ← EReal.coe_mul, ← EReal.coe_add, sil_half]

/-! ## The blocks of one point -/

/-- The coordinates padded with zeros to eight. -/
def pad (N : Nums) (b : Fin 2) (r : Fin 512) (x : Fin 8) : ℝ := if h : x.val < 3 then N.c b r ⟨x.val, h⟩ else 0

/-- The column part of the first layer, halved. -/
def colPart (N : Nums) (b : Fin 2) (j : Fin 512) (e : Fin 258) : ℝ :=
  ∑ k : Fin 64, N.we1 ⟨64 + k.val, by omega⟩ e * (1 / 2) * N.f b j k

variable (N : Nums) (b : Fin 2) (R : Fin 128 → Fin 512)
  (T : FVec Ideal S1x128x64 .f32) (C : FVec Ideal S1x128x8 .f32) (A : FVec Ideal S258x512 .bf16)
  (x2 : FVec Ideal S1x512x8 .f32) (x3 : FVec Ideal S1x8x512 .f32) (x4 : FVec Ideal S64x258 .f32)
  (x6 : FVec Ideal S1x258 .f32) (x7 : FVec Ideal S258x1 .f32) (x8 : FVec Ideal S16x258 .bf16)
  (x9 : FVec Ideal S16x512 .f32) (x10 : FVec Ideal S64x16 .bf16) (x11 : FVec Ideal S64x512 .f32)
  (x12 : FVec Ideal S1x64 .bf16) (x13 : FVec Ideal S1x1 .f32) (x14 : FVec Ideal S80x128 .f32)
  (x15 : FVec Ideal S1x128 .f32) (x16 : FVec Ideal S128x64 .f32) (x17 x18 x19 : FVec Ideal S1x64 .f32)

/-- The blocks that do not move with the point hold the numbers of `N` in the kernel's layout. -/
structure Weights : Prop where
  h4 : ∀ i, x4 i = ((N.we1 ⟨(i 0).val, Nat.lt_trans (i 0).isLt (by decide)⟩ (i 1) * (1 / 2) : ℝ) : EReal)
  h6 : ∀ i, x6 i = ((N.be1 (i 1) * (1 / 2) : ℝ) : EReal)
  h7 : ∀ i, x7 i = ((N.we1 ⟨128, by omega⟩ (i 0) * (1 / 2) : ℝ) : EReal)
  h8 : ∀ i, x8 i = ((N.we2 (i 1) (i 0) : ℝ) : EReal)
  h9 : ∀ i, x9 i = ((N.be2 (i 0) : ℝ) : EReal)
  h10 : ∀ i, x10 i = ((N.wc1 (i 1) (i 0) : ℝ) : EReal)
  h11 : ∀ i, x11 i = ((N.bc1 (i 0) : ℝ) : EReal)
  h12 : ∀ i, x12 i = ((N.wc2 (i 1) : ℝ) : EReal)
  h13 : ∀ i, x13 i = ((N.bc2 : ℝ) : EReal)
  h14 : ∀ i, x14 i = ((N.wn1 (i 0) (i 1) : ℝ) : EReal)
  h15 : ∀ i, x15 i = ((N.bn1 (i 1) : ℝ) : EReal)
  h16 : ∀ i, x16 i = N.wn2 (i 0) (i 1)
  h17 : ∀ i, x17 i = N.bn2 (i 1)
  h18 : ∀ i, x18 i = ((N.g (i 1) : ℝ) : EReal)
  h19 : ∀ i, x19 i = ((N.bt (i 1) : ℝ) : EReal)

/-- The blocks of a point on batch `b` whose rows are `R`. -/
structure Tile : Prop where
  hT : ∀ i, T i = ((N.f b (R (i 1)) (i 2) : ℝ) : EReal)
  hC : ∀ i, C i = ((pad N b (R (i 1)) (i 2) : ℝ) : EReal)
  hA : ∀ i, A i = ((colPart N b (i 1) (i 0) : ℝ) : EReal)
  h2 : ∀ i, x2 i = ((pad N b (i 1) (i 2) : ℝ) : EReal)
  h3 : ∀ i, x3 i = ((pad N b (i 2) (i 1) : ℝ) : EReal)

variable {N b R T C A x2 x3 x4 x6 x7 x8 x9 x10 x11 x12 x13 x14 x15 x16 x17 x18 x19}
variable (HW : Weights N x4 x6 x7 x8 x9 x10 x11 x12 x13 x14 x15 x16 x17 x18 x19) (HT : Tile N b R T C A x2 x3)

include HT in
theorem feat_read (i : S128x64.Idx) : k0_pay3 (F := Ideal) T i = ((N.f b (R (i 0)) (i 1) : ℝ) : EReal) :=
  (cast_drop T _ i).trans (HT.hT _)

include HT in
theorem coord_read (i : S128x8.Idx) : k0_pay5 (F := Ideal) C i = ((pad N b (R (i 0)) (i 1) : ℝ) : EReal) :=
  (cast_drop C _ i).trans (HT.hC _)

include HW HT in
/-- The row part of the first layer, halved. -/
theorem rowPart_read (i : S258x128.Idx) : k0_pay4 (F := Ideal) T x4 x6 i
    = (((∑ k : Fin 64, N.f b (R (i 1)) k * (N.we1 ⟨k.val, by omega⟩ (i 0) * (1 / 2))) + N.be1 (i 0) * (1 / 2) : ℝ) : EReal) := by
  dsimp only [k0_pay4]
  refine (transpose2 _ _ i).trans ?_
  refine (congrArg₂ (· + ·) (mm none (k0_pay3 (F := Ideal) T) (shapeCast S64x258 x4 shapeCasts_S64x258_S64x258)
      (fun r k => N.f b (R r) k) (fun k e => N.we1 ⟨k.val, by omega⟩ e * (1 / 2)) (feat_read HT)
      (fun i => (congrFun (shapeCast_self x4 _) i).trans (HW.h4 i)) _)
    ((bc_row _ _ _).trans ((congrFun (shapeCast_self x6 _) _).trans (HW.h6 _)))).trans ?_
  exact (EReal.coe_add _ _).symm

include HT in
theorem dist_read (i : S128x512.Idx) : k0_pay6 (F := Ideal) C x3 i = ((N.dist b (R (i 0)) (i 1) : ℝ) : EReal) := by
  have hc : ∀ i : S8x512.Idx, shapeCast S8x512 x3 shapeCasts_S1x8x512_S8x512 i = ((pad N b (i 1) (i 0) : ℝ) : EReal) :=
    fun i => (cast_drop x3 _ i).trans (HT.h3 _)
  have e1 : ∀ i : S128x512.Idx, broadcastTo S128x512 (shapeCast S128x1 (multiReduction .add [1] S128
      (mulf (k0_pay5 (F := Ideal) C) (k0_pay5 (F := Ideal) C)) 0x00000000#32 reduces_S128x8_S128 (.inl rfl) rfl) shapeCasts_S128_S128x1)
      broadcasts_S128x1_S128x512 i = ((∑ x : Fin 8, pad N b (R (i 0)) x * pad N b (R (i 0)) x : ℝ) : EReal) := fun i => by
      refine (bc_col _ _ _).trans ((cast_col _ _ _).trans ?_)
      exact sum_rows (mulf (k0_pay5 (F := Ideal) C) (k0_pay5 (F := Ideal) C)) (fun r x => pad N b (R r) x * pad N b (R r) x)
        (fun i => (congrArg₂ (· * ·) (coord_read HT i) (coord_read HT i)).trans (EReal.coe_mul _ _).symm) _ _ _ _ _
  have e2 : ∀ i : S128x512.Idx, broadcastTo S128x512 (shapeCast S1x512 (multiReduction .add [0] S512
      (mulf (shapeCast S8x512 x3 shapeCasts_S1x8x512_S8x512) (shapeCast S8x512 x3 shapeCasts_S1x8x512_S8x512))
      0x00000000#32 reduces_S8x512_S512 (.inl rfl) rfl) shapeCasts_S512_S1x512)
      broadcasts_S1x512_S128x512 i = ((∑ x : Fin 8, pad N b (i 1) x * pad N b (i 1) x : ℝ) : EReal) := fun i => by
      refine (bc_row _ _ _).trans ((cast_row _ _ _).trans ?_)
      exact sum_cols (mulf (shapeCast S8x512 x3 shapeCasts_S1x8x512_S8x512) (shapeCast S8x512 x3 shapeCasts_S1x8x512_S8x512))
        (fun x j => pad N b j x * pad N b j x) (fun i => (congrArg₂ (· * ·) (hc i) (hc i)).trans (EReal.coe_mul _ _).symm) _ _ _ _ _
  have e3 := mm none (k0_pay5 (F := Ideal) C) (shapeCast S8x512 x3 shapeCasts_S1x8x512_S8x512) (fun r x => pad N b (R r) x)
    (fun x j => pad N b j x) (coord_read HT) hc i
  refine (congrArg₂ (· - ·) (congrArg₂ (· + ·) (e1 i) (e2 i)) (congrArg₂ (· * ·) bits_two e3)).trans ?_
  rw [← EReal.coe_add, ← EReal.coe_mul, ← EReal.coe_sub]
  exact congrArg _ (N.dist_eq b (R (i 0)) (i 1) (pad N b) fun _ _ => rfl)

include HW HT in
/-- The hidden layer of row `k`. -/
theorem hidden_read (k : Fin 128) (i : S258x512.Idx) :
    rowH (k0_pay4 T x4 x6) (k0_pay6 C x3) A (k0_pay7 x7) k i = ((sil (N.pre b (R k) (i 1) (i 0)) : ℝ) : EReal) := by
  have hu : addf A (truncf .bf16
      (addf (broadcastTo S258x512 (extractStridedSlice S258x1 ![0, (k : ℕ)] (k0_pay4 T x4 x6) (colSlice k)) broadcasts_S258x1_S258x512)
        (mulf (broadcastTo S258x512 (extractStridedSlice S1x512 ![(k : ℕ), 0] (k0_pay6 C x3) (rowSlice k)) broadcasts_S1x512_S258x512)
          (broadcastTo S258x512 (k0_pay7 x7) broadcasts_S258x1_S258x512))) bitsLt_bf16_f32) i
      = ((N.pre b (R k) (i 1) (i 0) * (1 / 2) : ℝ) : EReal) := by
    refine (congrArg₂ (· + ·) (HT.hA i) (congrArg₂ (· + ·) ((bc_col _ _ _).trans ((slice_col _ k _ _).trans (rowPart_read HW HT _)))
      (congrArg₂ (· * ·) ((bc_row _ _ _).trans ((slice_row _ k _ _).trans (dist_read HT _)))
        ((bc_col _ _ _).trans ((congrFun (shapeCast_self x7 _) _).trans (HW.h7 _)))))).trans ?_
    rw [← EReal.coe_mul, ← EReal.coe_add, ← EReal.coe_add]
    exact congrArg _ (N.pre_half b (R k) (i 1) (i 0))
  refine Eq.trans ?_ (half_coe (N.pre b (R k) (i 1) (i 0)))
  rw [← hu]
  rfl

include HW HT in
theorem rowM_read (k : Fin 128) (i : S16x512.Idx) :
    rowM (k0_pay4 T x4 x6) (k0_pay6 C x3) A (k0_pay7 x7) (k0_pay8 x8) (k0_pay9 x9) k i
      = (((∑ e : Fin 258, sil (N.pre b (R k) (i 1) e) * N.we2 e (i 0)) + N.be2 (i 0) : ℝ) : EReal) := by
  refine (congrArg₂ (· + ·) (mm none (k0_pay8 x8) _ (fun q e => N.we2 e q) (fun e j => sil (N.pre b (R k) j e))
    (fun i => (congrFun (shapeCast_self x8 _) i).trans (HW.h8 i)) (hidden_read HW HT k) i)
    ((congrFun (shapeCast_self x9 _) i).trans (HW.h9 i))).trans ?_
  rw [← EReal.coe_add]
  exact congrArg (fun s : ℝ => ((s + N.be2 (i 0) : ℝ) : EReal)) (Finset.sum_congr rfl fun e _ => mul_comm _ _)

/-- The half of a number's silu, the half taken by the f32 constant. -/
theorem silu32 (x : ℝ) : Ideal.ofBits .f32 0x3F000000#32 * (x : EReal)
      + Ideal.ofBits .f32 0x3F000000#32 * (x : EReal) * Ideal.tanh (Ideal.ofBits .f32 0x3F000000#32 * (x : EReal))
    = ((sil x : ℝ) : EReal) := by
  rw [bits_half, mul_comm, ← EReal.coe_mul, half_coe]

/-- The same, the half taken by the bf16 constant. -/
theorem silu16 (x : ℝ) : Ideal.ofBits .bf16 0x3F00#16 * (x : EReal)
      + Ideal.ofBits .bf16 0x3F00#16 * (x : EReal) * Ideal.tanh (Ideal.ofBits .bf16 0x3F00#16 * (x : EReal))
    = ((sil x : ℝ) : EReal) := by
  rw [bits_half16, mul_comm, ← EReal.coe_mul, half_coe]

include HW HT in
theorem msg_read (k : Fin 128) (i : S16x512.Idx) :
    msg (rowM (k0_pay4 T x4 x6) (k0_pay6 C x3) A (k0_pay7 x7) (k0_pay8 x8) (k0_pay9 x9) k) i
      = ((N.mij b (R k) (i 1) (i 0) : ℝ) : EReal) := by
  refine Eq.trans ?_ (silu32 _)
  rw [← rowM_read HW HT k i]
  rfl

include HW HT in
theorem msgSum_read (k : Fin 128) (i : S16x1.Idx) :
    msgSum (rowM (k0_pay4 T x4 x6) (k0_pay6 C x3) A (k0_pay7 x7) (k0_pay8 x8) (k0_pay9 x9) k) i
      = ((N.mi b (R k) (i 0) : ℝ) : EReal) :=
  (congrFun (shapeCast_self _ _) i).trans ((cast_col _ _ _).trans
    (sum_rows _ (fun q j => N.mij b (R k) j q) (msg_read HW HT k) _ _ _ _ _))

include HW HT in
theorem wgt_read (k : Fin 128) (i : S1x512.Idx) :
    wgt (k0_pay10 x10) (k0_pay11 x11) (k0_pay12 x12) (k0_pay13 x13)
      (rowM (k0_pay4 T x4 x6) (k0_pay6 C x3) A (k0_pay7 x7) (k0_pay8 x8) (k0_pay9 x9) k) i
      = ((N.cw b (R k) (i 1) : ℝ) : EReal) := by
  have hp : ∀ i : S64x512.Idx, addf (matmul dot_S64x16_S16x512_S64x512_1_0_0_1_n_n none (k0_pay10 x10)
      (truncf .bf16 (msg (rowM (k0_pay4 T x4 x6) (k0_pay6 C x3) A (k0_pay7 x7) (k0_pay8 x8) (k0_pay9 x9) k)) bitsLt_bf16_f32)
      (constant S64x512 .f32 0x00000000#32)) (k0_pay11 x11) i
      = (((∑ q : Fin 16, N.mij b (R k) (i 1) q * N.wc1 q (i 0)) + N.bc1 (i 0) : ℝ) : EReal) := fun i => by
    refine (congrArg₂ (· + ·) (mm none (k0_pay10 x10) _ (fun l q => N.wc1 q l) (fun q j => N.mij b (R k) j q)
      (fun i => (congrFun (shapeCast_self x10 _) i).trans (HW.h10 i)) (msg_read HW HT k) i)
      ((congrFun (shapeCast_self x11 _) i).trans (HW.h11 i))).trans ?_
    rw [← EReal.coe_add]
    exact congrArg (fun s : ℝ => ((s + N.bc1 (i 0) : ℝ) : EReal)) (Finset.sum_congr rfl fun e _ => mul_comm _ _)
  dsimp only [wgt]
  refine (congrFun (shapeCast_self _ _) i).trans ?_
  refine (congrArg₂ (· + ·) (mm none (k0_pay12 x12) _ (fun _ l => N.wc2 l) (fun l j => N.chid b (R k) j l)
      (fun i => (congrFun (shapeCast_self x12 _) i).trans (HW.h12 i)) (fun i => ?_) i) (HW.h13 _)).trans ?_
  · refine Eq.trans ?_ (silu16 _)
    rw [← hp i]
    rfl
  · rw [← EReal.coe_add]
    exact congrArg (fun s : ℝ => ((s + N.bc2 : ℝ) : EReal)) (Finset.sum_congr rfl fun e _ => mul_comm _ _)

/-! ## The tiles and the two outputs -/

/-- Columns written one by one, last first, read at an index. -/
theorem canon_cols (P : Fin 128 → Vec Ideal S16x1 .f32) (i : S16x128.Idx) :
    View.canon (List.ofFn fun k : Fin 128 => (⟨Rect.unit ![0, ((Fin.rev k : Fin 128) : ℕ)] S16x1.size (colIn (Fin.rev k)),
      P (Fin.rev k)⟩ : View.Piece (Elt Ideal) S16x128 .f32)) i = P (i 1) (ix2 (i 0) (0 : Fin 1)) := by
  apply View.canon_ofFn_unit_eq_of_forall (Val := Elt Ideal) (S := S16x128) (e := .f32)
    (fun k : Fin 128 => ![0, ((Fin.rev k : Fin 128) : ℕ)]) S16x1.size (fun k => colIn (Fin.rev k)) (fun k => P (Fin.rev k))
  · have hr : (Fin.rev (Fin.rev (i 1))).val = (i 1).val := congrArg Fin.val (Fin.rev_rev (n := 128) (i 1))
    refine ⟨Fin.rev (i 1), fun a => ?_⟩
    match a with
    | ⟨0, _⟩ => exact ⟨Nat.zero_le _, Nat.lt_of_lt_of_eq (i 0).isLt (Nat.zero_add _).symm⟩
    | ⟨1, _⟩ => exact ⟨hr.le, Nat.lt_succ_of_le hr.ge⟩
  · intro k x hx
    have h0 : (i 0).val = 0 + (x 0).val := hx 0
    have h1 : (i 1).val = (Fin.rev k).val + (x 1).val := hx 1
    have hx1 : (x 1).val < 1 := (x 1).isLt
    have e1 : Fin.rev k = i 1 := Fin.ext (by show (Fin.rev k).val = (i 1).val; omega)
    show P (Fin.rev k) x = _
    rw [e1]
    refine congrArg (P (i 1)) (funext fun a => Fin.ext ?_)
    match a with
    | ⟨0, _⟩ => show (x 0).val = (i 0).val; omega
    | ⟨1, _⟩ => show (x 1).val = 0; omega

/-- Rows written one by one, last first, read at an index. -/
theorem canon_rows (P : Fin 128 → Vec Ideal S1x512 .f32) (i : S128x512.Idx) :
    View.canon (List.ofFn fun k : Fin 128 => (⟨Rect.unit ![((Fin.rev k : Fin 128) : ℕ), 0] S1x512.size (rowIn (Fin.rev k)),
      P (Fin.rev k)⟩ : View.Piece (Elt Ideal) S128x512 .f32)) i = P (i 0) (ix2 (0 : Fin 1) (i 1)) := by
  apply View.canon_ofFn_unit_eq_of_forall (Val := Elt Ideal) (S := S128x512) (e := .f32)
    (fun k : Fin 128 => ![((Fin.rev k : Fin 128) : ℕ), 0]) S1x512.size (fun k => rowIn (Fin.rev k)) (fun k => P (Fin.rev k))
  · have hr : (Fin.rev (Fin.rev (i 0))).val = (i 0).val := congrArg Fin.val (Fin.rev_rev (n := 128) (i 0))
    refine ⟨Fin.rev (i 0), fun a => ?_⟩
    match a with
    | ⟨0, _⟩ => exact ⟨hr.le, Nat.lt_succ_of_le hr.ge⟩
    | ⟨1, _⟩ => exact ⟨Nat.zero_le _, Nat.lt_of_lt_of_eq (i 1).isLt (Nat.zero_add _).symm⟩
  · intro k x hx
    have h0 : (i 0).val = (Fin.rev k).val + (x 0).val := hx 0
    have h1 : (i 1).val = 0 + (x 1).val := hx 1
    have hx0 : (x 0).val < 1 := (x 0).isLt
    have e0 : Fin.rev k = i 0 := Fin.ext (by show (Fin.rev k).val = (i 0).val; omega)
    show P (Fin.rev k) x = _
    rw [e0]
    refine congrArg (P (i 0)) (funext fun a => Fin.ext ?_)
    match a with
    | ⟨0, _⟩ => show (x 0).val = 0; omega
    | ⟨1, _⟩ => show (x 1).val = (i 1).val; omega

include HW HT in
theorem m_read (i : S16x128.Idx) :
    View.canon (Val := Elt Ideal) (mTile (F := Ideal) T C A x3 x4 x6 x7 x8 x9) i = ((N.mi b (R (i 1)) (i 0) : ℝ) : EReal) := by
  unfold mTile mPieces
  rw [canon_cols (fun k => msgSum (rowM (k0_pay4 T x4 x6) (k0_pay6 C x3) A (k0_pay7 x7) (k0_pay8 x8) (k0_pay9 x9) k)) i]
  exact msgSum_read HW HT (i 1) _

include HW HT in
theorem w_read (i : S128x512.Idx) :
    View.canon (Val := Elt Ideal) (wTile (F := Ideal) T C A x3 x4 x6 x7 x8 x9 x10 x11 x12 x13) i
      = ((N.cw b (R (i 0)) (i 1) : ℝ) : EReal) := by
  unfold wTile wPieces
  rw [canon_rows (fun k => wgt (k0_pay10 x10) (k0_pay11 x11) (k0_pay12 x12) (k0_pay13 x13)
    (rowM (k0_pay4 T x4 x6) (k0_pay6 C x3) A (k0_pay7 x7) (k0_pay8 x8) (k0_pay9 x9) k)) i]
  exact wgt_read HW HT (i 0) _

include HT in
/-- The coordinate output from the weights. -/
theorem coorTile_read (W : FVec Ideal S128x512 .f32) (hW : ∀ i, W i = ((N.cw b (R (i 0)) (i 1) : ℝ) : EReal))
    (i : S1x128x8.Idx) (hi : (i 2).val < 3) : coorTile (F := Ideal) C W x2 i = ((N.coor b (R (i 1)) ⟨(i 2).val, hi⟩ : ℝ) : EReal) := by
  have e1 : broadcastTo S128x8 (shapeCast S128x1 (multiReduction .add [1] S128 W 0x00000000#32 reduces_S128x512_S128
      (.inl rfl) rfl) shapeCasts_S128_S128x1) broadcasts_S128x1_S128x8 (ix2 (i 1) (i 2))
      = ((∑ j : Fin 512, N.cw b (R (i 1)) j : ℝ) : EReal) := by
    refine (bc_col _ _ _).trans ((cast_col _ _ _).trans ?_)
    exact sum_rows W (fun r j => N.cw b (R r) j) hW _ _ _ _ _
  have e2 := mm none W (shapeCast S512x8 x2 shapeCasts_S1x512x8_S512x8) (fun r j => N.cw b (R r) j) (fun j x => pad N b j x) hW
    (fun i => (cast_drop x2 _ i).trans (HT.h2 _)) (ix2 (i 1) (i 2))
  have hp : ∀ r, pad N b r (i 2) = N.c b r ⟨(i 2).val, hi⟩ := fun r => dif_pos hi
  dsimp only [coorTile, k0_pay725]
  refine (cast_add _ _ i).trans ((congrArg₂ (· - ·) (congrArg₂ (· + ·) (coord_read HT (ix2 (i 1) (i 2)))
    (congrArg₂ (· * ·) e1 (coord_read HT (ix2 (i 1) (i 2))))) e2).trans ?_)
  rw [← EReal.coe_mul, ← EReal.coe_add, ← EReal.coe_sub]
  refine congrArg _ ?_
  show pad N b (R (i 1)) (i 2) + (∑ j, N.cw b (R (i 1)) j) * pad N b (R (i 1)) (i 2)
    - ∑ j, N.cw b (R (i 1)) j * pad N b j (i 2) = _
  simp only [hp]
  exact N.coor_eq b (R (i 1)) ⟨(i 2).val, hi⟩

include HT in
theorem mean_read (i : S128x1.Idx) : k0_pay727 (k0_pay3 (F := Ideal) T) i = ((N.mu b (R (i 0)) : ℝ) : EReal) := by
  have e : shapeCast S128x1 (multiReduction .add [1] S128 (k0_pay3 (F := Ideal) T) 0x00000000#32 reduces_S128x64_S128 (.inl rfl) rfl)
      shapeCasts_S128_S128x1 i = ((∑ k : Fin 64, N.f b (R (i 0)) k : ℝ) : EReal) := by
    refine (cast_col _ _ _).trans ?_
    exact sum_rows (k0_pay3 (F := Ideal) T) (fun r k => N.f b (R r) k) (feat_read HT) _ _ _ _ _
  refine (congrArg₂ Ideal.div e bits_64).trans ?_
  rw [Ideal.div_coe (by norm_num), ← EReal.coe_mul]
  rfl

include HT in
theorem centred_read (i : S128x64.Idx) : subf (k0_pay3 (F := Ideal) T) (k0_pay729 (k0_pay3 (F := Ideal) T)) i
    = ((N.f b (R (i 0)) (i 1) - N.mu b (R (i 0)) : ℝ) : EReal) :=
  (congrArg₂ (· - ·) (feat_read HT i) ((bc_col _ broadcasts_S128x1_S128x64 _).trans (mean_read HT _))).trans (EReal.coe_sub _ _).symm

include HT in
theorem var_read (i : S128x1.Idx) : k0_pay728 (k0_pay3 (F := Ideal) T) i = ((N.var b (R (i 0)) : ℝ) : EReal) := by
  have e : shapeCast S128x1 (multiReduction .add [1] S128 (mulf (subf (k0_pay3 (F := Ideal) T) (k0_pay729 (k0_pay3 (F := Ideal) T)))
      (subf (k0_pay3 (F := Ideal) T) (k0_pay729 (k0_pay3 (F := Ideal) T)))) 0x00000000#32 reduces_S128x64_S128 (.inl rfl) rfl)
      shapeCasts_S128_S128x1 i
      = ((∑ k : Fin 64, (N.f b (R (i 0)) k - N.mu b (R (i 0))) * (N.f b (R (i 0)) k - N.mu b (R (i 0))) : ℝ) : EReal) := by
    refine (cast_col _ _ _).trans ?_
    exact sum_rows _ (fun r k => (N.f b (R r) k - N.mu b (R r)) * (N.f b (R r) k - N.mu b (R r)))
      (fun i => (congrArg₂ (· * ·) (centred_read HT i) (centred_read HT i)).trans (EReal.coe_mul _ _).symm) _ _ _ _ _
  refine (congrArg₂ Ideal.div e bits_64).trans ?_
  rw [Ideal.div_coe (by norm_num), ← EReal.coe_mul]
  rfl

include HT in
/-- The normalized features before scale and shift. -/
theorem unit_read (i : S128x64.Idx) : k0_pay730 (k0_pay3 (F := Ideal) T) (k0_pay728 (k0_pay3 (F := Ideal) T)) (k0_pay729 (k0_pay3 (F := Ideal) T)) i
    = (((N.f b (R (i 0)) (i 1) - N.mu b (R (i 0))) * (1 / Real.sqrt (N.var b (R (i 0)) + eps)) : ℝ) : EReal) := by
  have hr : ∀ j : S128x1.Idx, rsqrt (addf (k0_pay728 (k0_pay3 (F := Ideal) T)) (broadcast S128x1 (Scalar.ofBits .f32 0x3727C5AC#32))) j
      = ((1 / Real.sqrt (N.var b (R (j 0)) + eps) : ℝ) : EReal) := fun j => by
    refine (congrArg Ideal.rsqrt ((congrArg₂ (· + ·) (var_read HT j) bits_eps).trans (EReal.coe_add _ _).symm)).trans ?_
    have h := N.var_eps_pos b (R (j 0))
    rw [Ideal.rsqrt_coe, if_neg (not_lt.2 h.le), if_neg h.ne', one_div]
  exact (congrArg₂ (· * ·) (centred_read HT i) ((bc_col _ broadcasts_S128x1_S128x64 _).trans (hr _))).trans (EReal.coe_mul _ _).symm

include HW HT in
/-- The normalized features beside the summed messages. -/
theorem joined_read (M : FVec Ideal S16x128 .f32) (hM : ∀ i, M i = ((N.mi b (R (i 1)) (i 0) : ℝ) : EReal)) (j : S128x80.Idx) :
    concatenate S128x80 1 [⟨S128x64, addf (mulf (k0_pay730 (k0_pay3 (F := Ideal) T) (k0_pay728 (k0_pay3 (F := Ideal) T)) (k0_pay729 (k0_pay3 (F := Ideal) T)))
        (broadcastTo S128x64 (shapeCast S1x64 x18 shapeCasts_S1x64_S1x64) broadcasts_S1x64_S128x64))
        (broadcastTo S128x64 (shapeCast S1x64 x19 shapeCasts_S1x64_S1x64) broadcasts_S1x64_S128x64)⟩,
      ⟨S128x16, k0_pay726 M⟩] concatenates_S128x64_S128x16_S128x80_d1 j
    = (((if h : (j 1).val < 64 then N.nrm b (R (j 0)) ⟨(j 1).val, h⟩
        else N.mi b (R (j 0)) ⟨(j 1).val - 64, by have : (j 1).val < 80 := (j 1).isLt; omega⟩ : ℝ)) : EReal) := by
  have hj : (j 1).val < 80 := (j 1).isLt
  by_cases h : (j 1).val < 64
  · rw [dif_pos h]
    refine Eq.trans (concatenate_apply_piece (s₁ := S128x64) 1 _ _ j 0 (by simp) _ rfl rfl 0 rfl
      (ix2 (j 0) ⟨(j 1).val, h⟩)
      (fun b hb => match b with | ⟨0, _⟩ => rfl | ⟨1, _⟩ => absurd rfl hb) (Nat.zero_add _)) ?_
    refine (congrArg₂ (· + ·) (congrArg₂ (· * ·) (unit_read HT _)
      ((bc_row _ _ _).trans ((congrFun (shapeCast_self x18 _) _).trans (HW.h18 _))))
      ((bc_row _ _ _).trans ((congrFun (shapeCast_self x19 _) _).trans (HW.h19 _)))).trans ?_
    rw [← EReal.coe_mul, ← EReal.coe_add]
    rfl
  · rw [dif_neg h]
    refine Eq.trans (concatenate_apply_piece (s₁ := S128x16) 1 _ _ j 1 (by simp) (k0_pay726 M) rfl rfl 64 rfl
      (ix2 (j 0) ⟨(j 1).val - 64, by omega⟩)
      (fun b hb => match b with | ⟨0, _⟩ => rfl | ⟨1, _⟩ => absurd rfl hb)
      (by show 64 + ((j 1).val - 64) = (j 1).val; omega)) ?_
    exact (transpose2 M _ _).trans (hM _)

include HW HT in
/-- The node output from the summed messages. -/
theorem nodeTile_read (M : FVec Ideal S16x128 .f32) (hM : ∀ i, M i = ((N.mi b (R (i 1)) (i 0) : ℝ) : EReal)) (i : S1x128x64.Idx) :
    nodeTile (F := Ideal) T M x14 x15 x16 x17 x18 x19 i = N.node b (R (i 1)) (i 2) := by
  have hp := fun j : S128x128.Idx => (congrArg₂ (· + ·) (mm none _ x14 (fun r k => if h : k.val < 64 then N.nrm b (R r) ⟨k.val, h⟩
      else N.mi b (R r) ⟨k.val - 64, by omega⟩) (fun k n => N.wn1 k n) (joined_read HW HT M hM) HW.h14 j)
    ((bc_row (m := 128) (shapeCast S1x128 x15 shapeCasts_S1x128_S1x128) broadcasts_S1x128_S128x128 j).trans
      ((congrFun (shapeCast_self x15 _) _).trans (HW.h15 _)))).trans (EReal.coe_add _ _).symm
  have hs : ∀ j : S128x128.Idx, _ = ((N.hid b (R (j 0)) (j 1) : ℝ) : EReal) := fun j => by
    refine Eq.trans ?_ ((silu32 _).trans (congrArg (fun s : ℝ => ((sil (s + N.bn1 (j 1)) : ℝ) : EReal))
      (sum_80 fun k => (if h : k.val < 64 then N.nrm b (R (j 0)) ⟨k.val, h⟩
      else N.mi b (R (j 0)) ⟨k.val - 64, by omega⟩) * N.wn1 k (j 1))))
    rw [← hp j]
  dsimp only [nodeTile, k0_pay1]
  refine (cast_add _ _ i).trans (congrArg₂ (· + ·) (congrArg₂ (· + ·) ?_
    ((bc_row _ _ _).trans ((congrFun (shapeCast_self x17 _) _).trans (HW.h17 _)))) (feat_read HT _))
  refine (Ideal.matmul_plain_apply none _ x16 _ (i 1) (i 2)).trans ?_
  show Ideal.ofBits .f32 0x00000000#32 + _ = _
  rw [bits_zero, EReal.coe_zero, zero_add]
  refine Finset.sum_congr rfl fun n _ => ?_
  rw [HW.h16]
  exact congrArg (· * _) (hs (ix2 (i 1) n))

end Cert.KernelIdeal.Point

end
-- ==== Proof.Host.lean ====
/- What the kernel's arrays hold when it is entered: the host's slices, halvings, transposes and broadcasts of the
   arguments, read at an index as numbers. -/
module

public import proofs.«01_k».proof.Proof.Point
public import Idealize.ShloMosaic.Lib.KernelVsHost
public import Idealize.ShloMosaic.Lib.StableHlo.RunRead

@[expose] public section

noncomputable section

namespace Cert.KernelIdeal.Host

open Cert.KernelIdeal Cert.KernelIdeal.Gen Cert.KernelIdeal.Point Cert.Layer Idealize.ShloMosaic Idealize.ShloMosaic.TcCoe
open Idealize.ShloMosaic.ValueIdx Idealize.SL.Sem

/-! ## Host layout operations read at an index -/

section Layout
variable {α : Type} {m n : ℕ}

/-- A vector as a column. -/
theorem bid_col (x : (⟨1, ![m]⟩ : Shape).Idx → α) (h : (⟨1, ![m]⟩ : Shape).BroadcastsInDim ⟨2, ![m, 1]⟩ ![0])
    (i : (⟨2, ![m, 1]⟩ : Shape).Idx) : broadcastInDim ⟨2, ![m, 1]⟩ ![0] h x i = x (ix1 (i 0)) := by
  refine broadcastInDim_apply _ h x i _ fun a => ?_
  match a with
  | ⟨0, _⟩ =>
    show (i 0).val = if m = 1 then 0 else (i 0).val
    have h1 : (i 0).val < m := (i 0).isLt
    split <;> omega

/-- A vector as a row. -/
theorem bid_row (x : (⟨1, ![n]⟩ : Shape).Idx → α) (h : (⟨1, ![n]⟩ : Shape).BroadcastsInDim ⟨2, ![1, n]⟩ ![1])
    (i : (⟨2, ![1, n]⟩ : Shape).Idx) : broadcastInDim ⟨2, ![1, n]⟩ ![1] h x i = x (ix1 (i 1)) := by
  refine broadcastInDim_apply _ h x i _ fun a => ?_
  match a with
  | ⟨0, _⟩ =>
    show (i 1).val = if n = 1 then 0 else (i 1).val
    have h1 : (i 1).val < n := (i 1).isLt
    split <;> omega

/-- A column spread over a matrix. -/
theorem bid_mat (x : (⟨2, ![m, 1]⟩ : Shape).Idx → α) (h : (⟨2, ![m, 1]⟩ : Shape).BroadcastsInDim ⟨2, ![m, n]⟩ ![0, 1])
    (i : (⟨2, ![m, n]⟩ : Shape).Idx) : broadcastInDim ⟨2, ![m, n]⟩ ![0, 1] h x i = x (ix2 (i 0) (0 : Fin 1)) := by
  refine broadcastInDim_apply _ h x i _ fun a => ?_
  match a with
  | ⟨0, _⟩ =>
    show (i 0).val = if m = 1 then 0 else (i 0).val
    have h1 : (i 0).val < m := (i 0).isLt
    split <;> omega
  | ⟨1, _⟩ => rfl

/-- Rows `o`, `o + 1`, … of a matrix. -/
theorem slice_rows {k : ℕ} (o : ℕ) (ho : o + k ≤ m) (x : (⟨2, ![m, n]⟩ : Shape).Idx → α)
    (h : (⟨2, ![m, n]⟩ : Shape).Slices ![o, 0] ⟨2, ![k, n]⟩) (i : (⟨2, ![k, n]⟩ : Shape).Idx) :
    extractStridedSlice ⟨2, ![k, n]⟩ ![o, 0] x h i
      = x (ix2 (⟨o + (i 0).val, Nat.lt_of_lt_of_le (Nat.add_lt_add_left (i 0).isLt o) ho⟩ : Fin m) (i 1)) := by
  refine extractStridedSlice_apply _ x h i _ fun a => ?_
  match a with
  | ⟨0, _⟩ => rfl
  | ⟨1, _⟩ => exact (Nat.zero_add _).symm

/-- The last two axes exchanged. -/
theorem transpose3 {l : ℕ} (x : (⟨3, ![l, m, n]⟩ : Shape).Idx → α)
    (h : (⟨3, ![l, m, n]⟩ : Shape).Transposes [0, 2, 1] ⟨3, ![l, n, m]⟩) (i : (⟨3, ![l, n, m]⟩ : Shape).Idx) :
    transpose ⟨3, ![l, n, m]⟩ [0, 2, 1] x h i = x (ix3 (i 0) (i 2) (i 1)) := by
  refine transpose_apply _ x h i _ fun a => ?_
  match a with
  | ⟨0, _⟩ => rfl
  | ⟨1, _⟩ => rfl
  | ⟨2, _⟩ => rfl

end Layout

/-- A number times the host's half. -/
theorem mul_half {S : Shape} (x : FVec Ideal S .f32) (h : S_.BroadcastsInDim S ![]) (i : S.Idx) (r : ℝ) (hx : x i = (r : EReal)) :
    mulf x (broadcastInDim S ![] h (constant S_ .f32 0x3F000000#32)) i = ((r * (1 / 2) : ℝ) : EReal) :=
  (congrArg₂ (· * ·) hx bits_half).trans (EReal.coe_mul _ _).symm

/-! ## The carried matrix -/

/-- The column part of the first layer, halved, over any two blocks that hold its factors. -/
theorem colPart_of (N : Nums) (b : Fin 2) (x5 : Vec Ideal S258x64 .f32) (x1 : Vec Ideal S1x64x512 .f32)
    (h5 : ∀ i, x5 i = ((N.we1 ⟨64 + (i 1).val, Nat.lt_trans (Nat.add_lt_add_left (i 1).isLt 64) (by decide)⟩ (i 0) * (1 / 2) : ℝ) : EReal))
    (h1 : ∀ i, x1 i = ((N.f b (i 2) (i 1) : ℝ) : EReal)) (i : S258x512.Idx) :
    k0_pay2 (F := Ideal) x5 x1 i = ((colPart N b (i 1) (i 0) : ℝ) : EReal) := by
  dsimp only [k0_pay2]
  rw [shapeCast_self]
  refine mm none (shapeCast S258x64 x5 shapeCasts_S258x64_S258x64 : FVec Ideal S258x64 .f32)
    (shapeCast S64x512 x1 shapeCasts_S1x64x512_S64x512 : FVec Ideal S64x512 .f32)
    (fun e k => N.we1 ⟨64 + k.val, Nat.lt_trans (Nat.add_lt_add_left k.isLt 64) (by decide)⟩ e * (1 / 2))
    (fun k j => N.f b j k) (fun i => ?_) (fun i => ?_) i
  · rw [shapeCast_self]
    exact h5 i
  · exact (cast_drop _ _ i).trans (h1 _)

variable (N : Nums) (m : (ℓ : Loc nD τ sig) → Buf (Elt Ideal) ℓ) (c : Dev nD)

/-- The arguments on core `c` hold the numbers of `N`. -/
structure Args : Prop where
  h0 : ∀ i : S2x512x64.Idx, (m ((c : Thread nD τ).loc main_arg0) : FVec Ideal S2x512x64 .f32) i = ((N.f (i 0) (i 1) (i 2) : ℝ) : EReal)
  h1 : ∀ i : S2x512x3.Idx, (m ((c : Thread nD τ).loc main_arg1) : FVec Ideal S2x512x3 .f32) i = ((N.c (i 0) (i 1) (i 2) : ℝ) : EReal)
  h3 : ∀ i : S129x258.Idx, (m ((c : Thread nD τ).loc main_arg3) : FVec Ideal S129x258 .f32) i = ((N.we1 (i 0) (i 1) : ℝ) : EReal)
  h4 : ∀ i : S258.Idx, (m ((c : Thread nD τ).loc main_arg4) : FVec Ideal S258 .f32) i = ((N.be1 (i 0) : ℝ) : EReal)
  h5 : ∀ i : S258x16.Idx, (m ((c : Thread nD τ).loc main_arg5) : FVec Ideal S258x16 .f32) i = ((N.we2 (i 0) (i 1) : ℝ) : EReal)
  h6 : ∀ i : S16.Idx, (m ((c : Thread nD τ).loc main_arg6) : FVec Ideal S16 .f32) i = ((N.be2 (i 0) : ℝ) : EReal)
  h7 : ∀ i : S16x64.Idx, (m ((c : Thread nD τ).loc main_arg7) : FVec Ideal S16x64 .f32) i = ((N.wc1 (i 0) (i 1) : ℝ) : EReal)
  h8 : ∀ i : S64.Idx, (m ((c : Thread nD τ).loc main_arg8) : FVec Ideal S64 .f32) i = ((N.bc1 (i 0) : ℝ) : EReal)
  h9 : ∀ i : S64x1.Idx, (m ((c : Thread nD τ).loc main_arg9) : FVec Ideal S64x1 .f32) i = ((N.wc2 (i 0) : ℝ) : EReal)
  h10 : ∀ i : S1.Idx, (m ((c : Thread nD τ).loc main_arg10) : FVec Ideal S1 .f32) i = ((N.bc2 : ℝ) : EReal)
  h11 : ∀ i : S80x128.Idx, (m ((c : Thread nD τ).loc main_arg11) : FVec Ideal S80x128 .f32) i = ((N.wn1 (i 0) (i 1) : ℝ) : EReal)
  h12 : ∀ i : S128.Idx, (m ((c : Thread nD τ).loc main_arg12) : FVec Ideal S128 .f32) i = ((N.bn1 (i 0) : ℝ) : EReal)
  h13 : ∀ i : S128x64.Idx, (m ((c : Thread nD τ).loc main_arg13) : FVec Ideal S128x64 .f32) i = N.wn2 (i 0) (i 1)
  h14 : ∀ i : S64.Idx, (m ((c : Thread nD τ).loc main_arg14) : FVec Ideal S64 .f32) i = N.bn2 (i 0)
  h15 : ∀ i : S64.Idx, (m ((c : Thread nD τ).loc main_arg15) : FVec Ideal S64 .f32) i = ((N.g (i 0) : ℝ) : EReal)
  h16 : ∀ i : S64.Idx, (m ((c : Thread nD τ).loc main_arg16) : FVec Ideal S64 .f32) i = ((N.bt (i 0) : ℝ) : EReal)

variable {N m c} (H : Args N m c)

include H in
theorem featsT (i : S2x64x512.Idx) : (V m c main_v0 : FVec Ideal S2x64x512 .f32) i = ((N.f (i 0) (i 2) (i 1) : ℝ) : EReal) := by
  have e : @Eq (FVec Ideal S2x64x512 .f32) (V m c main_v0)
      (transpose S2x64x512 [0, 2, 1] (m ((c : Thread nD τ).loc main_arg0)) transposes_S2x512x64_S2x64x512_0_2_1) := by
    after_reads_simp
  rw [e]
  exact (transpose3 _ _ i).trans (H.h0 _)

include H in
theorem coorsP (i : S2x512x8.Idx) : (V m c main_v1 : FVec Ideal S2x512x8 .f32) i = ((Point.pad N (i 0) (i 1) (i 2) : ℝ) : EReal) := by
  have e : @Eq (FVec Ideal S2x512x8 .f32) (V m c main_v1)
      (pad S2x512x8 ![0, 0, 0] ![0, 0, 5] ![0, 0, 0] (m ((c : Thread nD τ).loc main_arg1)) (sitofp .f32 (constantI S_ 32 0#32)) pads_S2x512x3_S2x512x8_000_000_050 h_S_) := by
    after_reads_simp
    rfl
  rw [e]
  unfold Point.pad
  by_cases h : (i 2).val < 3
  · refine (pad_apply_of_inside _ _ _ _ _ _ _ i (ix3 (i 0) (i 1) ⟨(i 2).val, h⟩) fun a => ?_).trans ((H.h1 _).trans ?_)
    · match a with
      | ⟨0, _⟩ => show (i 0).val = 0 + (i 0).val * 1; omega
      | ⟨1, _⟩ => show (i 1).val = 0 + (i 1).val * 1; omega
      | ⟨2, _⟩ => show (i 2).val = 0 + (i 2).val * 1; omega
    · rw [dif_pos h]
  · refine (pad_apply_of_not_inside _ _ _ _ _ _ _ i 2 fun hin => h ?_).trans ?_
    · have h2 : ((i 2).val - 0) / 1 < 3 := hin.2.2
      omega
    · refine Eq.trans ?_ (congrArg _ (dif_neg h).symm)
      show FloatOps.sitofp (F := Ideal) .f32 (0#32) = _
      simp [FloatOps.sitofp]

include H in
theorem coorsT (i : S2x8x512.Idx) : (V m c main_v2 : FVec Ideal S2x8x512 .f32) i = ((Point.pad N (i 0) (i 2) (i 1) : ℝ) : EReal) := by
  have e : @Eq (FVec Ideal S2x8x512 .f32) (V m c main_v2)
      (transpose S2x8x512 [0, 2, 1] (V m c main_v1 : FVec Ideal S2x512x8 .f32) transposes_S2x512x8_S2x8x512_0_2_1) := by
    after_reads_simp
  rw [e]
  exact (transpose3 _ _ i).trans (coorsP H _)

include H in
theorem w1row (i : S64x258.Idx) : (V m c main_v5 : FVec Ideal S64x258 .f32) i = ((N.we1 ⟨(i 0).val, Nat.lt_trans (i 0).isLt (by decide)⟩ (i 1) * (1 / 2) : ℝ) : EReal) := by
  have e : @Eq (FVec Ideal S64x258 .f32) (V m c main_v5)
      (mulf (extractStridedSlice S64x258 ![0, 0] (m ((c : Thread nD τ).loc main_arg3)) slices_S129x258_S64x258_0_0)
      (broadcastInDim S64x258 ![] bcast_S_S64x258 (constant S_ .f32 0x3F000000#32))) := by
    after_reads_simp
  rw [e]
  refine mul_half _ _ i _ ((slice_rows 0 (by decide) _ _ i).trans ((H.h3 _).trans (congrArg (fun r : Fin 129 => ((N.we1 r (i 1) : ℝ) : EReal)) ?_)))
  exact Fin.ext (Nat.zero_add _)

include H in
theorem w1col (i : S258x64.Idx) : (V m c main_v9 : FVec Ideal S258x64 .f32) i = ((N.we1 ⟨64 + (i 1).val, Nat.lt_trans (Nat.add_lt_add_left (i 1).isLt 64) (by decide)⟩ (i 0) * (1 / 2) : ℝ) : EReal) := by
  have e : @Eq (FVec Ideal S258x64 .f32) (V m c main_v9)
      (mulf (transpose S258x64 [1, 0] (extractStridedSlice S64x258 ![64, 0] (m ((c : Thread nD τ).loc main_arg3)) slices_S129x258_S64x258_64_0)
      transposes_S64x258_S258x64_1_0) (broadcastInDim S258x64 ![] bcast_S_S258x64 (constant S_ .f32 0x3F000000#32))) := by
    after_reads_simp
  rw [e]
  exact mul_half _ _ i _ ((transpose2 _ _ i).trans ((slice_rows 64 (by decide) _ _ _).trans (H.h3 _)))

include H in
theorem w1dist (i : S258x1.Idx) : (V m c main_v14 : FVec Ideal S258x1 .f32) i = ((N.we1 ⟨128, by omega⟩ (i 0) * (1 / 2) : ℝ) : EReal) := by
  have e : @Eq (FVec Ideal S258x1 .f32) (V m c main_v14)
      (mulf (broadcastInDim S258x1 ![0] bcast_S258_S258x1_0 (shapeCast S258 (extractStridedSlice S1x258 ![128, 0] (m ((c : Thread nD τ).loc main_arg3))
      slices_S129x258_S1x258_128_0) shapeCasts_S1x258_S258)) (broadcastInDim S258x1 ![] bcast_S_S258x1 (constant S_ .f32 0x3F000000#32))) := by
    after_reads_simp
    rfl
  rw [e]
  refine mul_half _ _ i _ ((bid_col _ _ i).trans ((shapeCast_apply _ _ _ (ix2 (0 : Fin 1) (i 0)) ?_).trans
    ((slice_rows 128 (by decide) _ _ _).trans (H.h3 _))))
  rw [Shape.rowMajor_val_one, Shape.rowMajor_val_two]
  exact (Nat.zero_mul 258).symm ▸ Nat.zero_add _

include H in
theorem b1 (i : S1x258.Idx) : (V m c main_v27 : FVec Ideal S1x258 .f32) i = ((N.be1 (i 1) * (1 / 2) : ℝ) : EReal) := by
  have e : @Eq (FVec Ideal S1x258 .f32) (V m c main_v27)
      (broadcastInDim S1x258 ![1] bcast_S258_S1x258_1 (mulf (m ((c : Thread nD τ).loc main_arg4)) (broadcastInDim S258 ![] bcast_S_S258 (constant S_ .f32 0x3F000000#32)))) := by
    after_reads_simp
  rw [e]
  exact (bid_row _ _ i).trans (mul_half _ _ _ _ (H.h4 _))

include H in
theorem w2T (i : S16x258.Idx) : (V m c main_v18 : FVec Ideal S16x258 .bf16) i = ((N.we2 (i 1) (i 0) : ℝ) : EReal) := by
  have e : @Eq (FVec Ideal S16x258 .bf16) (V m c main_v18)
      (truncf .bf16 (transpose S16x258 [1, 0] (m ((c : Thread nD τ).loc main_arg5)) transposes_S258x16_S16x258_1_0) bitsLt_bf16_f32) := by
    after_reads_simp
  rw [e]
  exact (transpose2 _ _ i).trans (H.h5 _)

include H in
theorem b2 (i : S16x512.Idx) : (V m c main_v20 : FVec Ideal S16x512 .f32) i = ((N.be2 (i 0) : ℝ) : EReal) := by
  have e : @Eq (FVec Ideal S16x512 .f32) (V m c main_v20)
      (broadcastInDim S16x512 ![0, 1] bcast_S16x1_S16x512_0_1 (broadcastInDim S16x1 ![0] bcast_S16_S16x1_0 (m ((c : Thread nD τ).loc main_arg6)))) := by
    after_reads_simp
  rw [e]
  exact (bid_mat _ _ i).trans ((bid_col _ _ _).trans (H.h6 _))

include H in
theorem c1T (i : S64x16.Idx) : (V m c main_v22 : FVec Ideal S64x16 .bf16) i = ((N.wc1 (i 1) (i 0) : ℝ) : EReal) := by
  have e : @Eq (FVec Ideal S64x16 .bf16) (V m c main_v22)
      (truncf .bf16 (transpose S64x16 [1, 0] (m ((c : Thread nD τ).loc main_arg7)) transposes_S16x64_S64x16_1_0) bitsLt_bf16_f32) := by
    after_reads_simp
  rw [e]
  exact (transpose2 _ _ i).trans (H.h7 _)

include H in
theorem d1 (i : S64x512.Idx) : (V m c main_v24 : FVec Ideal S64x512 .f32) i = ((N.bc1 (i 0) : ℝ) : EReal) := by
  have e : @Eq (FVec Ideal S64x512 .f32) (V m c main_v24)
      (broadcastInDim S64x512 ![0, 1] bcast_S64x1_S64x512_0_1 (broadcastInDim S64x1 ![0] bcast_S64_S64x1_0 (m ((c : Thread nD τ).loc main_arg8)))) := by
    after_reads_simp
  rw [e]
  exact (bid_mat _ _ i).trans ((bid_col _ _ _).trans (H.h8 _))

include H in
theorem c2T (i : S1x64.Idx) : (V m c main_v26 : FVec Ideal S1x64 .bf16) i = ((N.wc2 (i 1) : ℝ) : EReal) := by
  have e : @Eq (FVec Ideal S1x64 .bf16) (V m c main_v26)
      (truncf .bf16 (transpose S1x64 [1, 0] (m ((c : Thread nD τ).loc main_arg9)) transposes_S64x1_S1x64_1_0) bitsLt_bf16_f32) := by
    after_reads_simp
  rw [e]
  exact (transpose2 _ _ i).trans (H.h9 _)

include H in
theorem d2 (i : S1x1.Idx) : (V m c main_v28 : FVec Ideal S1x1 .f32) i = ((N.bc2 : ℝ) : EReal) := by
  have e : @Eq (FVec Ideal S1x1 .f32) (V m c main_v28)
      (broadcastInDim S1x1 ![1] bcast_S1_S1x1_1 (m ((c : Thread nD τ).loc main_arg10))) := by
    after_reads_simp
  rw [e]
  exact (bid_row _ _ i).trans (H.h10 _)

include H in
theorem bn1 (i : S1x128.Idx) : (V m c main_v29 : FVec Ideal S1x128 .f32) i = ((N.bn1 (i 1) : ℝ) : EReal) := by
  have e : @Eq (FVec Ideal S1x128 .f32) (V m c main_v29)
      (broadcastInDim S1x128 ![1] bcast_S128_S1x128_1 (m ((c : Thread nD τ).loc main_arg12))) := by
    after_reads_simp
  rw [e]
  exact (bid_row _ _ i).trans (H.h12 _)

include H in
theorem bn2 (i : S1x64.Idx) : (V m c main_v30 : FVec Ideal S1x64 .f32) i = N.bn2 (i 1) := by
  have e : @Eq (FVec Ideal S1x64 .f32) (V m c main_v30)
      (broadcastInDim S1x64 ![1] bcast_S64_S1x64_1 (m ((c : Thread nD τ).loc main_arg14))) := by
    after_reads_simp
  rw [e]
  exact (bid_row _ _ i).trans (H.h14 _)

include H in
theorem scale (i : S1x64.Idx) : (V m c main_v31 : FVec Ideal S1x64 .f32) i = ((N.g (i 1) : ℝ) : EReal) := by
  have e : @Eq (FVec Ideal S1x64 .f32) (V m c main_v31)
      (broadcastInDim S1x64 ![1] bcast_S64_S1x64_1 (m ((c : Thread nD τ).loc main_arg15))) := by
    after_reads_simp
  rw [e]
  exact (bid_row _ _ i).trans (H.h15 _)

include H in
theorem shift (i : S1x64.Idx) : (V m c main_v32 : FVec Ideal S1x64 .f32) i = ((N.bt (i 1) : ℝ) : EReal) := by
  have e : @Eq (FVec Ideal S1x64 .f32) (V m c main_v32)
      (broadcastInDim S1x64 ![1] bcast_S64_S1x64_1 (m ((c : Thread nD τ).loc main_arg16))) := by
    after_reads_simp
  rw [e]
  exact (bid_row _ _ i).trans (H.h16 _)

end Cert.KernelIdeal.Host
-- ==== Proof.CaseA.lean ====
/- What case A of the body leaves in its outputs, as functions of the blocks it reads. -/
module

public import proofs.«01_k».proof.Proof.Rows

@[expose] public section

noncomputable section

namespace Cert.KernelIdeal.Rows

open Idealize.ShloMosaic Idealize.ShloMosaic.TcCoe Idealize.SL.Sem Cert.KernelIdeal.Gen

variable {F : FTy → Type} [FloatOps F]

variable (c : Dev nD) (i : grid0.Coords) (arg2 : Memref sig .tc .vmem S1x512x64 .f32) (harg2 : arg2.IsWhole) (arg3 : Memref sig .tc .vmem S1x64x512 .f32) (harg3 : arg3.IsWhole) (arg4 : Memref sig .tc .vmem S1x512x8 .f32) (harg4 : arg4.IsWhole) (arg5 : Memref sig .tc .vmem S1x8x512 .f32) (harg5 : arg5.IsWhole) (arg6 : Memref sig .tc .vmem S64x258 .f32) (harg6 : arg6.IsWhole) (arg7 : Memref sig .tc .vmem S258x64 .f32) (harg7 : arg7.IsWhole) (arg8 : Memref sig .tc .vmem S1x258 .f32) (harg8 : arg8.IsWhole) (arg9 : Memref sig .tc .vmem S258x1 .f32) (harg9 : arg9.IsWhole) (arg10 : Memref sig .tc .vmem S16x258 .bf16) (harg10 : arg10.IsWhole) (arg11 : Memref sig .tc .vmem S16x512 .f32) (harg11 : arg11.IsWhole) (arg12 : Memref sig .tc .vmem S64x16 .bf16) (harg12 : arg12.IsWhole) (arg13 : Memref sig .tc .vmem S64x512 .f32) (harg13 : arg13.IsWhole) (arg14 : Memref sig .tc .vmem S1x64 .bf16) (harg14 : arg14.IsWhole) (arg15 : Memref sig .tc .vmem S1x1 .f32) (harg15 : arg15.IsWhole) (arg16 : Memref sig .tc .vmem S80x128 .f32) (harg16 : arg16.IsWhole) (arg17 : Memref sig .tc .vmem S1x128 .f32) (harg17 : arg17.IsWhole) (arg18 : Memref sig .tc .vmem S128x64 .f32) (harg18 : arg18.IsWhole) (arg19 : Memref sig .tc .vmem S1x64 .f32) (harg19 : arg19.IsWhole) (arg20 : Memref sig .tc .vmem S1x64 .f32) (harg20 : arg20.IsWhole) (arg21 : Memref sig .tc .vmem S1x64 .f32) (harg21 : arg21.IsWhole) (arg22 : Memref sig .tc .vmem S1x128x64 .f32) (harg22 : arg22.IsWhole) (arg23 : Memref sig .tc .vmem S1x128x8 .f32) (harg23 : arg23.IsWhole) (arg24 : Memref sig .tc .vmem S258x512 .bf16) (harg24 : arg24.IsWhole) (arg25 : Memref sig .tc .vmem S128x512 .f32) (harg25 : arg25.IsWhole) (arg26 : Memref sig .tc .vmem S16x128 .f32) (harg26 : arg26.IsWhole) (hc0 : cond0_0 i)
    (x0 : Vec F S1x512x64 .f32) (x1 : Vec F S1x64x512 .f32) (x2 : Vec F S1x512x8 .f32) (x3 : Vec F S1x8x512 .f32) (x4 : Vec F S64x258 .f32) (x5 : Vec F S258x64 .f32) (x6 : Vec F S1x258 .f32) (x7 : Vec F S258x1 .f32) (x8 : Vec F S16x258 .bf16) (x9 : Vec F S16x512 .f32) (x10 : Vec F S64x16 .bf16) (x11 : Vec F S64x512 .f32) (x12 : Vec F S1x64 .bf16) (x13 : Vec F S1x1 .f32) (x14 : Vec F S80x128 .f32) (x15 : Vec F S1x128 .f32) (x16 : Vec F S128x64 .f32) (x17 : Vec F S1x64 .f32) (x18 : Vec F S1x64 .f32) (x19 : Vec F S1x64 .f32)

set_option maxRecDepth 100000 in
set_option maxHeartbeats 4000000 in
/-- The rows of weights case A stores. -/
theorem wA : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 x19).2.2.2.1 =
    wTile (View.readAt (Elt F) arg2.view (Rect.unit (s := S1x512x64) (k0_off1 i) S1x128x64.size (k0_off1_inb i)).toLoadRect (harg2.unread x0)) (View.readAt (Elt F) arg4.view (Rect.unit (s := S1x512x8) (k0_off2 i) S1x128x8.size (k0_off2_inb i)).toLoadRect (harg4.unread x2)) (arg24.view.readCov [⟨Rect.unit ![0, 0] S258x512.size inb_S258x512_S258x512_0_0, k0_pay2 (View.readAt (Elt F) arg7.view (Rect.unit ![0, 0] S258x64.size inb_S258x64_S258x64_0_0).toLoadRect (harg7.unread x5)) (View.readAt (Elt F) arg3.view (Rect.unit ![0, 0, 0] S1x64x512.size inb_S1x64x512_S1x64x512_0_0_0).toLoadRect (harg3.unread x1))⟩] (Rect.unit ![0, 0] S258x512.size inb_S258x512_S258x512_0_0).toLoadRect) (View.readAt (Elt F) arg5.view (Rect.unit ![0, 0, 0] S1x8x512.size inb_S1x8x512_S1x8x512_0_0_0).toLoadRect (harg5.unread x3)) (View.readAt (Elt F) arg6.view (Rect.unit ![0, 0] S64x258.size inb_S64x258_S64x258_0_0).toLoadRect (harg6.unread x4)) (View.readAt (Elt F) arg8.view (Rect.unit ![0, 0] S1x258.size inb_S1x258_S1x258_0_0).toLoadRect (harg8.unread x6)) (View.readAt (Elt F) arg9.view (Rect.unit ![0, 0] S258x1.size inb_S258x1_S258x1_0_0).toLoadRect (harg9.unread x7)) (View.readAt (Elt F) arg10.view (Rect.unit ![0, 0] S16x258.size inb_S16x258_S16x258_0_0).toLoadRect (harg10.unread x8)) (View.readAt (Elt F) arg11.view (Rect.unit ![0, 0] S16x512.size inb_S16x512_S16x512_0_0).toLoadRect (harg11.unread x9)) (View.readAt (Elt F) arg12.view (Rect.unit ![0, 0] S64x16.size inb_S64x16_S64x16_0_0).toLoadRect (harg12.unread x10)) (View.readAt (Elt F) arg13.view (Rect.unit ![0, 0] S64x512.size inb_S64x512_S64x512_0_0).toLoadRect (harg13.unread x11)) (View.readAt (Elt F) arg14.view (Rect.unit ![0, 0] S1x64.size inb_S1x64_S1x64_0_0).toLoadRect (harg14.unread x12)) (View.readAt (Elt F) arg15.view (Rect.unit ![0, 0] S1x1.size inb_S1x1_S1x1_0_0).toLoadRect (harg15.unread x13)) := by
  sl_kernel_rfl

set_option maxRecDepth 100000 in
set_option maxHeartbeats 4000000 in
/-- The columns of summed messages case A stores. -/
theorem mA : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 x19).2.2.2.2.1 =
    mTile (View.readAt (Elt F) arg2.view (Rect.unit (s := S1x512x64) (k0_off1 i) S1x128x64.size (k0_off1_inb i)).toLoadRect (harg2.unread x0)) (View.readAt (Elt F) arg4.view (Rect.unit (s := S1x512x8) (k0_off2 i) S1x128x8.size (k0_off2_inb i)).toLoadRect (harg4.unread x2)) (arg24.view.readCov [⟨Rect.unit ![0, 0] S258x512.size inb_S258x512_S258x512_0_0, k0_pay2 (View.readAt (Elt F) arg7.view (Rect.unit ![0, 0] S258x64.size inb_S258x64_S258x64_0_0).toLoadRect (harg7.unread x5)) (View.readAt (Elt F) arg3.view (Rect.unit ![0, 0, 0] S1x64x512.size inb_S1x64x512_S1x64x512_0_0_0).toLoadRect (harg3.unread x1))⟩] (Rect.unit ![0, 0] S258x512.size inb_S258x512_S258x512_0_0).toLoadRect) (View.readAt (Elt F) arg5.view (Rect.unit ![0, 0, 0] S1x8x512.size inb_S1x8x512_S1x8x512_0_0_0).toLoadRect (harg5.unread x3)) (View.readAt (Elt F) arg6.view (Rect.unit ![0, 0] S64x258.size inb_S64x258_S64x258_0_0).toLoadRect (harg6.unread x4)) (View.readAt (Elt F) arg8.view (Rect.unit ![0, 0] S1x258.size inb_S1x258_S1x258_0_0).toLoadRect (harg8.unread x6)) (View.readAt (Elt F) arg9.view (Rect.unit ![0, 0] S258x1.size inb_S258x1_S258x1_0_0).toLoadRect (harg9.unread x7)) (View.readAt (Elt F) arg10.view (Rect.unit ![0, 0] S16x258.size inb_S16x258_S16x258_0_0).toLoadRect (harg10.unread x8)) (View.readAt (Elt F) arg11.view (Rect.unit ![0, 0] S16x512.size inb_S16x512_S16x512_0_0).toLoadRect (harg11.unread x9)) := by
  sl_kernel_rfl

set_option maxRecDepth 100000 in
/-- The node output of case A. -/
theorem nodeA : out0_A_20 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 x19 =
    nodeTile (View.ld x0 (Rect.unit (s := S1x512x64) (k0_off1 i) S1x128x64.size (k0_off1_inb i))) (View.canon (mTile (View.ld x0 (Rect.unit (s := S1x512x64) (k0_off1 i) S1x128x64.size (k0_off1_inb i))) (View.ld x2 (Rect.unit (s := S1x512x8) (k0_off2 i) S1x128x8.size (k0_off2_inb i))) (k0_pay2 x5 x1) x3 x4 x6 x7 x8 x9)) x14 x15 x16 x17 x18 x19 := by
  have h : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 x19).1 = [⟨Rect.unit ![0, 0, 0] S1x128x64.size inb_S1x128x64_S1x128x64_0_0_0,
      nodeTile (View.readAt (Elt F) arg2.view (Rect.unit (s := S1x512x64) (k0_off1 i) S1x128x64.size (k0_off1_inb i)).toLoadRect (harg2.unread x0)) (arg26.view.readCov (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 x19).2.2.2.2.1 (Rect.unit ![0, 0] S16x128.size inb_S16x128_S16x128_0_0).toLoadRect)
        (View.readAt (Elt F) arg16.view (Rect.unit ![0, 0] S80x128.size inb_S80x128_S80x128_0_0).toLoadRect (harg16.unread x14)) (View.readAt (Elt F) arg17.view (Rect.unit ![0, 0] S1x128.size inb_S1x128_S1x128_0_0).toLoadRect (harg17.unread x15)) (View.readAt (Elt F) arg18.view (Rect.unit ![0, 0] S128x64.size inb_S128x64_S128x64_0_0).toLoadRect (harg18.unread x16)) (View.readAt (Elt F) arg19.view (Rect.unit ![0, 0] S1x64.size inb_S1x64_S1x64_0_0).toLoadRect (harg19.unread x17)) (View.readAt (Elt F) arg20.view (Rect.unit ![0, 0] S1x64.size inb_S1x64_S1x64_0_0).toLoadRect (harg20.unread x18)) (View.readAt (Elt F) arg21.view (Rect.unit ![0, 0] S1x64.size inb_S1x64_S1x64_0_0).toLoadRect (harg21.unread x19))⟩] := by sl_kernel_rfl
  unfold out0_A_20
  rw [View.read_writes_junk_eq_canon, h, View.canon_unit_zero zero3, readCov_whole arg26.view _ zero2, mA]
  simp only [read_whole arg4 harg4 x2 zero3, read_whole arg5 harg5 x3 zero3, read_whole arg6 harg6 x4 zero2, read_whole arg7 harg7 x5 zero2, read_whole arg8 harg8 x6 zero2, read_whole arg9 harg9 x7 zero2, read_whole arg10 harg10 x8 zero2, read_whole arg11 harg11 x9 zero2, read_whole arg12 harg12 x10 zero2, read_whole arg13 harg13 x11 zero2, read_whole arg14 harg14 x12 zero2, read_whole arg15 harg15 x13 zero2, read_whole arg16 harg16 x14 zero2, read_whole arg17 harg17 x15 zero2, read_whole arg18 harg18 x16 zero2, read_whole arg19 harg19 x17 zero2, read_whole arg20 harg20 x18 zero2, read_whole arg21 harg21 x19 zero2, read_whole arg3 harg3 x1 zero3, read_rect, readCov_whole arg24.view _ zero2, canon_whole2]

set_option maxRecDepth 100000 in
/-- The coordinate output of case A. -/
theorem coorA : out0_A_21 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 x19 =
    coorTile (View.ld x2 (Rect.unit (s := S1x512x8) (k0_off2 i) S1x128x8.size (k0_off2_inb i))) (View.canon (wTile (View.ld x0 (Rect.unit (s := S1x512x64) (k0_off1 i) S1x128x64.size (k0_off1_inb i))) (View.ld x2 (Rect.unit (s := S1x512x8) (k0_off2 i) S1x128x8.size (k0_off2_inb i))) (k0_pay2 x5 x1) x3 x4 x6 x7 x8 x9 x10 x11 x12 x13)) x2 := by
  have h : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 x19).2.1 = [⟨Rect.unit ![0, 0, 0] S1x128x8.size inb_S1x128x8_S1x128x8_0_0_0,
      coorTile (View.readAt (Elt F) arg4.view (Rect.unit (s := S1x512x8) (k0_off2 i) S1x128x8.size (k0_off2_inb i)).toLoadRect (harg4.unread x2)) (arg25.view.readCov (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 x19).2.2.2.1 (Rect.unit ![0, 0] S128x512.size inb_S128x512_S128x512_0_0).toLoadRect)
        (View.readAt (Elt F) arg4.view (Rect.unit ![0, 0, 0] S1x512x8.size inb_S1x512x8_S1x512x8_0_0_0).toLoadRect (harg4.unread x2))⟩] := by sl_kernel_rfl
  unfold out0_A_21
  rw [View.read_writes_junk_eq_canon, h, View.canon_unit_zero zero3, readCov_whole arg25.view _ zero2, wA]
  simp only [read_whole arg4 harg4 x2 zero3, read_whole arg5 harg5 x3 zero3, read_whole arg6 harg6 x4 zero2, read_whole arg7 harg7 x5 zero2, read_whole arg8 harg8 x6 zero2, read_whole arg9 harg9 x7 zero2, read_whole arg10 harg10 x8 zero2, read_whole arg11 harg11 x9 zero2, read_whole arg12 harg12 x10 zero2, read_whole arg13 harg13 x11 zero2, read_whole arg14 harg14 x12 zero2, read_whole arg15 harg15 x13 zero2, read_whole arg16 harg16 x14 zero2, read_whole arg17 harg17 x15 zero2, read_whole arg18 harg18 x16 zero2, read_whole arg19 harg19 x17 zero2, read_whole arg20 harg20 x18 zero2, read_whole arg21 harg21 x19 zero2, read_whole arg3 harg3 x1 zero3, read_rect, readCov_whole arg24.view _ zero2, canon_whole2]

set_option maxRecDepth 100000 in
/-- The column part of the hidden layer, which case A leaves for the points after it. -/
theorem sA : sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 x19 = k0_pay2 x5 x1 := by
  have h : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 x19).2.2.1 = [⟨Rect.unit ![0, 0] S258x512.size inb_S258x512_S258x512_0_0,
      k0_pay2 (View.readAt (Elt F) arg7.view (Rect.unit ![0, 0] S258x64.size inb_S258x64_S258x64_0_0).toLoadRect (harg7.unread x5)) (View.readAt (Elt F) arg3.view (Rect.unit ![0, 0, 0] S1x64x512.size inb_S1x64x512_S1x64x512_0_0_0).toLoadRect (harg3.unread x1))⟩] := by sl_kernel_rfl
  unfold sout0_A_0
  rw [View.read_writes_junk_eq_canon, h, View.canon_unit_zero zero2, read_whole arg7 harg7 x5 zero2, read_whole arg3 harg3 x1 zero3]

end Cert.KernelIdeal.Rows

end
-- ==== Proof.CaseB.lean ====
/- What case B of the body leaves in its outputs, as functions of the blocks it reads. -/
module

public import proofs.«01_k».proof.Proof.Rows

@[expose] public section

noncomputable section

namespace Cert.KernelIdeal.Rows

open Idealize.ShloMosaic Idealize.ShloMosaic.TcCoe Idealize.SL.Sem Cert.KernelIdeal.Gen

variable {F : FTy → Type} [FloatOps F]

variable (c : Dev nD) (i : grid0.Coords) (arg2 : Memref sig .tc .vmem S1x512x64 .f32) (harg2 : arg2.IsWhole) (arg3 : Memref sig .tc .vmem S1x64x512 .f32) (harg3 : arg3.IsWhole) (arg4 : Memref sig .tc .vmem S1x512x8 .f32) (harg4 : arg4.IsWhole) (arg5 : Memref sig .tc .vmem S1x8x512 .f32) (harg5 : arg5.IsWhole) (arg6 : Memref sig .tc .vmem S64x258 .f32) (harg6 : arg6.IsWhole) (arg7 : Memref sig .tc .vmem S258x64 .f32) (harg7 : arg7.IsWhole) (arg8 : Memref sig .tc .vmem S1x258 .f32) (harg8 : arg8.IsWhole) (arg9 : Memref sig .tc .vmem S258x1 .f32) (harg9 : arg9.IsWhole) (arg10 : Memref sig .tc .vmem S16x258 .bf16) (harg10 : arg10.IsWhole) (arg11 : Memref sig .tc .vmem S16x512 .f32) (harg11 : arg11.IsWhole) (arg12 : Memref sig .tc .vmem S64x16 .bf16) (harg12 : arg12.IsWhole) (arg13 : Memref sig .tc .vmem S64x512 .f32) (harg13 : arg13.IsWhole) (arg14 : Memref sig .tc .vmem S1x64 .bf16) (harg14 : arg14.IsWhole) (arg15 : Memref sig .tc .vmem S1x1 .f32) (harg15 : arg15.IsWhole) (arg16 : Memref sig .tc .vmem S80x128 .f32) (harg16 : arg16.IsWhole) (arg17 : Memref sig .tc .vmem S1x128 .f32) (harg17 : arg17.IsWhole) (arg18 : Memref sig .tc .vmem S128x64 .f32) (harg18 : arg18.IsWhole) (arg19 : Memref sig .tc .vmem S1x64 .f32) (harg19 : arg19.IsWhole) (arg20 : Memref sig .tc .vmem S1x64 .f32) (harg20 : arg20.IsWhole) (arg21 : Memref sig .tc .vmem S1x64 .f32) (harg21 : arg21.IsWhole) (arg22 : Memref sig .tc .vmem S1x128x64 .f32) (harg22 : arg22.IsWhole) (arg23 : Memref sig .tc .vmem S1x128x8 .f32) (harg23 : arg23.IsWhole) (arg24 : Memref sig .tc .vmem S258x512 .bf16) (harg24 : arg24.IsWhole) (arg25 : Memref sig .tc .vmem S128x512 .f32) (harg25 : arg25.IsWhole) (arg26 : Memref sig .tc .vmem S16x128 .f32) (harg26 : arg26.IsWhole) (hc0 : ¬cond0_0 i)
    (x0 : Vec F S1x512x64 .f32) (x1 : Vec F S1x64x512 .f32) (x2 : Vec F S1x512x8 .f32) (x3 : Vec F S1x8x512 .f32) (x4 : Vec F S64x258 .f32) (x5 : Vec F S258x64 .f32) (x6 : Vec F S1x258 .f32) (x7 : Vec F S258x1 .f32) (x8 : Vec F S16x258 .bf16) (x9 : Vec F S16x512 .f32) (x10 : Vec F S64x16 .bf16) (x11 : Vec F S64x512 .f32) (x12 : Vec F S1x64 .bf16) (x13 : Vec F S1x1 .f32) (x14 : Vec F S80x128 .f32) (x15 : Vec F S1x128 .f32) (x16 : Vec F S128x64 .f32) (x17 : Vec F S1x64 .f32) (x18 : Vec F S1x64 .f32) (x19 : Vec F S1x64 .f32) (xs0 : Vec F S258x512 .bf16)

set_option maxRecDepth 100000 in
set_option maxHeartbeats 4000000 in
/-- The rows of weights case B stores. -/
theorem wB : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 x19 xs0).2.2.2.1 =
    wTile (View.readAt (Elt F) arg2.view (Rect.unit (s := S1x512x64) (k0_off1 i) S1x128x64.size (k0_off1_inb i)).toLoadRect (harg2.unread x0)) (View.readAt (Elt F) arg4.view (Rect.unit (s := S1x512x8) (k0_off2 i) S1x128x8.size (k0_off2_inb i)).toLoadRect (harg4.unread x2)) (View.readAt (Elt F) arg24.view (Rect.unit ![0, 0] S258x512.size inb_S258x512_S258x512_0_0).toLoadRect (harg24.unread xs0)) (View.readAt (Elt F) arg5.view (Rect.unit ![0, 0, 0] S1x8x512.size inb_S1x8x512_S1x8x512_0_0_0).toLoadRect (harg5.unread x3)) (View.readAt (Elt F) arg6.view (Rect.unit ![0, 0] S64x258.size inb_S64x258_S64x258_0_0).toLoadRect (harg6.unread x4)) (View.readAt (Elt F) arg8.view (Rect.unit ![0, 0] S1x258.size inb_S1x258_S1x258_0_0).toLoadRect (harg8.unread x6)) (View.readAt (Elt F) arg9.view (Rect.unit ![0, 0] S258x1.size inb_S258x1_S258x1_0_0).toLoadRect (harg9.unread x7)) (View.readAt (Elt F) arg10.view (Rect.unit ![0, 0] S16x258.size inb_S16x258_S16x258_0_0).toLoadRect (harg10.unread x8)) (View.readAt (Elt F) arg11.view (Rect.unit ![0, 0] S16x512.size inb_S16x512_S16x512_0_0).toLoadRect (harg11.unread x9)) (View.readAt (Elt F) arg12.view (Rect.unit ![0, 0] S64x16.size inb_S64x16_S64x16_0_0).toLoadRect (harg12.unread x10)) (View.readAt (Elt F) arg13.view (Rect.unit ![0, 0] S64x512.size inb_S64x512_S64x512_0_0).toLoadRect (harg13.unread x11)) (View.readAt (Elt F) arg14.view (Rect.unit ![0, 0] S1x64.size inb_S1x64_S1x64_0_0).toLoadRect (harg14.unread x12)) (View.readAt (Elt F) arg15.view (Rect.unit ![0, 0] S1x1.size inb_S1x1_S1x1_0_0).toLoadRect (harg15.unread x13)) := by
  sl_kernel_rfl

set_option maxRecDepth 100000 in
set_option maxHeartbeats 4000000 in
/-- The columns of summed messages case B stores. -/
theorem mB : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 x19 xs0).2.2.2.2.1 =
    mTile (View.readAt (Elt F) arg2.view (Rect.unit (s := S1x512x64) (k0_off1 i) S1x128x64.size (k0_off1_inb i)).toLoadRect (harg2.unread x0)) (View.readAt (Elt F) arg4.view (Rect.unit (s := S1x512x8) (k0_off2 i) S1x128x8.size (k0_off2_inb i)).toLoadRect (harg4.unread x2)) (View.readAt (Elt F) arg24.view (Rect.unit ![0, 0] S258x512.size inb_S258x512_S258x512_0_0).toLoadRect (harg24.unread xs0)) (View.readAt (Elt F) arg5.view (Rect.unit ![0, 0, 0] S1x8x512.size inb_S1x8x512_S1x8x512_0_0_0).toLoadRect (harg5.unread x3)) (View.readAt (Elt F) arg6.view (Rect.unit ![0, 0] S64x258.size inb_S64x258_S64x258_0_0).toLoadRect (harg6.unread x4)) (View.readAt (Elt F) arg8.view (Rect.unit ![0, 0] S1x258.size inb_S1x258_S1x258_0_0).toLoadRect (harg8.unread x6)) (View.readAt (Elt F) arg9.view (Rect.unit ![0, 0] S258x1.size inb_S258x1_S258x1_0_0).toLoadRect (harg9.unread x7)) (View.readAt (Elt F) arg10.view (Rect.unit ![0, 0] S16x258.size inb_S16x258_S16x258_0_0).toLoadRect (harg10.unread x8)) (View.readAt (Elt F) arg11.view (Rect.unit ![0, 0] S16x512.size inb_S16x512_S16x512_0_0).toLoadRect (harg11.unread x9)) := by
  sl_kernel_rfl

set_option maxRecDepth 100000 in
/-- The node output of case B. -/
theorem nodeB : out0_B_20 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 x19 xs0 =
    nodeTile (View.ld x0 (Rect.unit (s := S1x512x64) (k0_off1 i) S1x128x64.size (k0_off1_inb i))) (View.canon (mTile (View.ld x0 (Rect.unit (s := S1x512x64) (k0_off1 i) S1x128x64.size (k0_off1_inb i))) (View.ld x2 (Rect.unit (s := S1x512x8) (k0_off2 i) S1x128x8.size (k0_off2_inb i))) xs0 x3 x4 x6 x7 x8 x9)) x14 x15 x16 x17 x18 x19 := by
  have h : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 x19 xs0).1 = [⟨Rect.unit ![0, 0, 0] S1x128x64.size inb_S1x128x64_S1x128x64_0_0_0,
      nodeTile (View.readAt (Elt F) arg2.view (Rect.unit (s := S1x512x64) (k0_off1 i) S1x128x64.size (k0_off1_inb i)).toLoadRect (harg2.unread x0)) (arg26.view.readCov (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 x19 xs0).2.2.2.2.1 (Rect.unit ![0, 0] S16x128.size inb_S16x128_S16x128_0_0).toLoadRect)
        (View.readAt (Elt F) arg16.view (Rect.unit ![0, 0] S80x128.size inb_S80x128_S80x128_0_0).toLoadRect (harg16.unread x14)) (View.readAt (Elt F) arg17.view (Rect.unit ![0, 0] S1x128.size inb_S1x128_S1x128_0_0).toLoadRect (harg17.unread x15)) (View.readAt (Elt F) arg18.view (Rect.unit ![0, 0] S128x64.size inb_S128x64_S128x64_0_0).toLoadRect (harg18.unread x16)) (View.readAt (Elt F) arg19.view (Rect.unit ![0, 0] S1x64.size inb_S1x64_S1x64_0_0).toLoadRect (harg19.unread x17)) (View.readAt (Elt F) arg20.view (Rect.unit ![0, 0] S1x64.size inb_S1x64_S1x64_0_0).toLoadRect (harg20.unread x18)) (View.readAt (Elt F) arg21.view (Rect.unit ![0, 0] S1x64.size inb_S1x64_S1x64_0_0).toLoadRect (harg21.unread x19))⟩] := by sl_kernel_rfl
  unfold out0_B_20
  rw [View.read_writes_junk_eq_canon, h, View.canon_unit_zero zero3, readCov_whole arg26.view _ zero2, mB]
  simp only [read_whole arg4 harg4 x2 zero3, read_whole arg5 harg5 x3 zero3, read_whole arg6 harg6 x4 zero2, read_whole arg7 harg7 x5 zero2, read_whole arg8 harg8 x6 zero2, read_whole arg9 harg9 x7 zero2, read_whole arg10 harg10 x8 zero2, read_whole arg11 harg11 x9 zero2, read_whole arg12 harg12 x10 zero2, read_whole arg13 harg13 x11 zero2, read_whole arg14 harg14 x12 zero2, read_whole arg15 harg15 x13 zero2, read_whole arg16 harg16 x14 zero2, read_whole arg17 harg17 x15 zero2, read_whole arg18 harg18 x16 zero2, read_whole arg19 harg19 x17 zero2, read_whole arg20 harg20 x18 zero2, read_whole arg21 harg21 x19 zero2, read_whole arg24 harg24 xs0 zero2, read_rect]

set_option maxRecDepth 100000 in
/-- The coordinate output of case B. -/
theorem coorB : out0_B_21 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 x19 xs0 =
    coorTile (View.ld x2 (Rect.unit (s := S1x512x8) (k0_off2 i) S1x128x8.size (k0_off2_inb i))) (View.canon (wTile (View.ld x0 (Rect.unit (s := S1x512x64) (k0_off1 i) S1x128x64.size (k0_off1_inb i))) (View.ld x2 (Rect.unit (s := S1x512x8) (k0_off2 i) S1x128x8.size (k0_off2_inb i))) xs0 x3 x4 x6 x7 x8 x9 x10 x11 x12 x13)) x2 := by
  have h : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 x19 xs0).2.1 = [⟨Rect.unit ![0, 0, 0] S1x128x8.size inb_S1x128x8_S1x128x8_0_0_0,
      coorTile (View.readAt (Elt F) arg4.view (Rect.unit (s := S1x512x8) (k0_off2 i) S1x128x8.size (k0_off2_inb i)).toLoadRect (harg4.unread x2)) (arg25.view.readCov (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 x19 xs0).2.2.2.1 (Rect.unit ![0, 0] S128x512.size inb_S128x512_S128x512_0_0).toLoadRect)
        (View.readAt (Elt F) arg4.view (Rect.unit ![0, 0, 0] S1x512x8.size inb_S1x512x8_S1x512x8_0_0_0).toLoadRect (harg4.unread x2))⟩] := by sl_kernel_rfl
  unfold out0_B_21
  rw [View.read_writes_junk_eq_canon, h, View.canon_unit_zero zero3, readCov_whole arg25.view _ zero2, wB]
  simp only [read_whole arg4 harg4 x2 zero3, read_whole arg5 harg5 x3 zero3, read_whole arg6 harg6 x4 zero2, read_whole arg7 harg7 x5 zero2, read_whole arg8 harg8 x6 zero2, read_whole arg9 harg9 x7 zero2, read_whole arg10 harg10 x8 zero2, read_whole arg11 harg11 x9 zero2, read_whole arg12 harg12 x10 zero2, read_whole arg13 harg13 x11 zero2, read_whole arg14 harg14 x12 zero2, read_whole arg15 harg15 x13 zero2, read_whole arg16 harg16 x14 zero2, read_whole arg17 harg17 x15 zero2, read_whole arg18 harg18 x16 zero2, read_whole arg19 harg19 x17 zero2, read_whole arg20 harg20 x18 zero2, read_whole arg21 harg21 x19 zero2, read_whole arg24 harg24 xs0 zero2, read_rect]

/-- Case B leaves the column part of the hidden layer as it found it. -/
theorem sB : sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 x19 xs0 = xs0 := rfl

end Cert.KernelIdeal.Rows

end
-- ==== Proof.Blocks.lean ====
/- What each grid point leaves behind, read as the layer's numbers: the blocks of a point are rows of the host's arrays, the
   carried matrix is the same along a batch, and so the two tiles a point writes are rows of the layer's two results. -/
module

public import proofs.«01_k».proof.Proof.Host
public import proofs.«01_k».proof.Proof.CaseA
public import proofs.«01_k».proof.Proof.CaseB

@[expose] public section

noncomputable section

namespace Cert.KernelIdeal.Blocks

open Cert.KernelIdeal Cert.KernelIdeal.Gen Cert.KernelIdeal.Point Cert.KernelIdeal.Rows Cert.KernelIdeal.Host Cert.Layer
open Idealize.ShloMosaic Idealize.ShloMosaic.TcCoe Idealize.ShloMosaic.ValueIdx Idealize.SL.Sem

/-! ## Which block a point works on -/

/-- The batch of point `t`. -/
def bat (t : Fin cfg0.N) : Fin 2 := ⟨t.val / 4, by have h : t.val < 8 := t.isLt; omega⟩

/-- The row of the batch that row `r` of point `t`'s tile is. -/
def row (t : Fin cfg0.N) (r : Fin 128) : Fin 512 := ⟨128 * (t.val % 4) + r.val, by omega⟩

theorem coord_one : ∀ t : Fin cfg0.N, (grid0.coords t 1).val = t.val % 4 := (by decide +kernel : ∀ t : Fin grid0.N, _)

/-- The whole arrays' windows stay at block zero. -/
theorem index_whole : ∀ (w : Fin cfg0.W) (t : Fin cfg0.N), 4 ≤ w.val → w.val < 20 → ∀ a, (cfg0.win w).index t a = 0 := by
  decide +kernel

theorem index_feats : ∀ t : Fin cfg0.N, win0_0.index t = ![t.val / 4, 0, 0] := (by decide +kernel : ∀ t : Fin grid0.N, _)
theorem index_featsT : ∀ t : Fin cfg0.N, win0_1.index t = ![t.val / 4, 0, 0] := (by decide +kernel : ∀ t : Fin grid0.N, _)
theorem index_coors : ∀ t : Fin cfg0.N, win0_2.index t = ![t.val / 4, 0, 0] := (by decide +kernel : ∀ t : Fin grid0.N, _)
theorem index_coorsT : ∀ t : Fin cfg0.N, win0_3.index t = ![t.val / 4, 0, 0] := (by decide +kernel : ∀ t : Fin grid0.N, _)
theorem index_node : ∀ t : Fin cfg0.N, win0_20.index t = ![t.val / 4, t.val % 4, 0] := (by decide +kernel : ∀ t : Fin grid0.N, _)
theorem index_coor : ∀ t : Fin cfg0.N, win0_21.index t = ![t.val / 4, t.val % 4, 0] := (by decide +kernel : ∀ t : Fin grid0.N, _)

variable {N : Nums} {m : (ℓ : Loc nD τ sig) → Buf (Elt Ideal) ℓ} {c : Dev nD} (H : Args N m c) (t : Fin cfg0.N)

/-- A block's element is the array's element at the block's offset. -/
theorem block_at (w : Fin cfg0.W) (hk : (cfg0.win w).kind = .blocked) (j : ((cfg0.win w).xblock (cfg0.grid.coords t)).Idx)
    (i : (cfg0.win w).shape.Idx) (h : ∀ a, (i a).val = (cfg0.win w).index t a * (cfg0.win w).size a + (j a).val) :
    ((cfg0.win w).rect t).emb j = i :=
  funext fun a => Fin.ext (((cfg0.win w).rect_emb_val t j a hk).trans (h a).symm)

/-- A whole array's element is at its own place. -/
theorem whole_at (w : Fin cfg0.W) (h4 : 4 ≤ w.val) (h20 : w.val < 20) (j : ((cfg0.win w).xblock (cfg0.grid.coords t)).Idx)
    (i : (cfg0.win w).shape.Idx) (h : ∀ a, (i a).val = (j a).val) : ((cfg0.win w).rect t).emb j = i :=
  funext fun a => Fin.ext (((cfg0.win w).rect_emb_val_of_index_zero t a (index_whole w t h4 h20 a) j).trans (h a).symm)

set_option maxHeartbeats 4000000 in
include H in
/-- The weight blocks hold the weights at every point. -/
theorem weights : Weights N (iblk m c 4 t) (iblk m c 6 t) (iblk m c 7 t) (iblk m c 8 t) (iblk m c 9 t) (iblk m c 10 t)
    (iblk m c 11 t) (iblk m c 12 t) (iblk m c 13 t) (iblk m c 14 t) (iblk m c 15 t) (iblk m c 16 t) (iblk m c 17 t)
    (iblk m c 18 t) (iblk m c 19 t) where
  h4 i := (congrArg (V m c main_v5) (whole_at t 4 (by decide) (by decide) i i fun _ => rfl)).trans (w1row H i)
  h6 i := (congrArg (V m c main_v27) (whole_at t 6 (by decide) (by decide) i i fun _ => rfl)).trans (b1 H i)
  h7 i := (congrArg (V m c main_v14) (whole_at t 7 (by decide) (by decide) i i fun _ => rfl)).trans (w1dist H i)
  h8 i := (congrArg (V m c main_v18) (whole_at t 8 (by decide) (by decide) i i fun _ => rfl)).trans (w2T H i)
  h9 i := (congrArg (V m c main_v20) (whole_at t 9 (by decide) (by decide) i i fun _ => rfl)).trans (b2 H i)
  h10 i := (congrArg (V m c main_v22) (whole_at t 10 (by decide) (by decide) i i fun _ => rfl)).trans (c1T H i)
  h11 i := (congrArg (V m c main_v24) (whole_at t 11 (by decide) (by decide) i i fun _ => rfl)).trans (d1 H i)
  h12 i := (congrArg (V m c main_v26) (whole_at t 12 (by decide) (by decide) i i fun _ => rfl)).trans (c2T H i)
  h13 i := (congrArg (V m c main_v28) (whole_at t 13 (by decide) (by decide) i i fun _ => rfl)).trans (d2 H i)
  h14 i := (congrArg (V m c main_arg11) (whole_at t 14 (by decide) (by decide) i i fun _ => rfl)).trans
    ((congrFun (V_main_arg11 m c) i).trans (H.h11 i))
  h15 i := (congrArg (V m c main_v29) (whole_at t 15 (by decide) (by decide) i i fun _ => rfl)).trans (bn1 H i)
  h16 i := (congrArg (V m c main_arg13) (whole_at t 16 (by decide) (by decide) i i fun _ => rfl)).trans
    ((congrFun (V_main_arg13 m c) i).trans (H.h13 i))
  h17 i := (congrArg (V m c main_v30) (whole_at t 17 (by decide) (by decide) i i fun _ => rfl)).trans (bn2 H i)
  h18 i := (congrArg (V m c main_v31) (whole_at t 18 (by decide) (by decide) i i fun _ => rfl)).trans (scale H i)
  h19 i := (congrArg (V m c main_v32) (whole_at t 19 (by decide) (by decide) i i fun _ => rfl)).trans (shift H i)

include H in
theorem block_w1col (i : S258x64.Idx) : (iblk m c 5 t : FVec Ideal S258x64 .f32) i
    = ((N.we1 ⟨64 + (i 1).val, Nat.lt_trans (Nat.add_lt_add_left (i 1).isLt 64) (by decide)⟩ (i 0) * (1 / 2) : ℝ) : EReal) :=
  (congrArg (V m c main_v9) (whole_at t 5 (by decide) (by decide) i i fun _ => rfl)).trans (w1col H i)

/-- A batch's block sits at the batch. -/
theorem batch_at {r s : ℕ} (idx : Fin 3 → ℕ) (h : idx = ![t.val / 4, 0, 0]) (j : (⟨3, ![1, r, s]⟩ : Shape).Idx) (a : Fin 3) :
    ((ix3 (bat t) (j 1) (j 2) : (⟨3, ![2, r, s]⟩ : Shape).Idx) a).val = idx a * (![1, r, s] : Fin 3 → ℕ) a + (j a).val := by
  subst h
  match a with
  | ⟨0, _⟩ =>
    have h0 : (j 0).val < 1 := (j 0).isLt
    show t.val / 4 = t.val / 4 * 1 + (j 0).val
    omega
  | ⟨1, _⟩ => show (j 1).val = 0 * r + (j 1).val; omega
  | ⟨2, _⟩ => show (j 2).val = 0 * s + (j 2).val; omega

include H in
theorem block_feats (i : S1x512x64.Idx) : (iblk m c 0 t : FVec Ideal S1x512x64 .f32) i = ((N.f (bat t) (i 1) (i 2) : ℝ) : EReal) :=
  (congrArg (V m c main_arg0) (block_at t 0 rfl i (ix3 (bat t) (i 1) (i 2)) (batch_at t _ (index_feats t) i))).trans
    ((congrFun (V_main_arg0 m c) _).trans (H.h0 _))

include H in
theorem block_featsT (i : S1x64x512.Idx) : (iblk m c 1 t : FVec Ideal S1x64x512 .f32) i = ((N.f (bat t) (i 2) (i 1) : ℝ) : EReal) :=
  (congrArg (V m c main_v0) (block_at t 1 rfl i (ix3 (bat t) (i 1) (i 2)) (batch_at t _ (index_featsT t) i))).trans (featsT H _)

include H in
theorem block_coors (i : S1x512x8.Idx) : (iblk m c 2 t : FVec Ideal S1x512x8 .f32) i = ((pad N (bat t) (i 1) (i 2) : ℝ) : EReal) :=
  (congrArg (V m c main_v1) (block_at t 2 rfl i (ix3 (bat t) (i 1) (i 2)) (batch_at t _ (index_coors t) i))).trans (coorsP H _)

include H in
theorem block_coorsT (i : S1x8x512.Idx) : (iblk m c 3 t : FVec Ideal S1x8x512 .f32) i = ((pad N (bat t) (i 2) (i 1) : ℝ) : EReal) :=
  (congrArg (V m c main_v2) (block_at t 3 rfl i (ix3 (bat t) (i 1) (i 2)) (batch_at t _ (index_coorsT t) i))).trans (coorsT H _)

/-! ## The rows of a tile -/

/-- The rows a point loads from a batch's block. -/
theorem rows_at {s : ℕ} (off : Fin 3 → ℕ) (h : off = ![0, 128 * (t.val % 4), 0]) (j : (⟨3, ![1, 128, s]⟩ : Shape).Idx) (a : Fin 3) :
    ((ix3 (0 : Fin 1) (row t (j 1)) (j 2) : (⟨3, ![1, 512, s]⟩ : Shape).Idx) a).val = off a + (j a).val := by
  subst h
  match a with
  | ⟨0, _⟩ =>
    have h0 : (j 0).val < 1 := (j 0).isLt
    show 0 = 0 + (j 0).val
    omega
  | ⟨1, _⟩ => rfl
  | ⟨2, _⟩ => show (j 2).val = 0 + (j 2).val; omega

theorem off1 : k0_off1 (grid0.coords t) = ![0, 128 * (t.val % 4), 0] := by rw [k0_off1_eq, coord_one]
theorem off2 : k0_off2 (grid0.coords t) = ![0, 128 * (t.val % 4), 0] := by rw [k0_off2_eq, coord_one]

/-- The feature rows of point `t`. -/
abbrev featRows (m : (ℓ : Loc nD τ sig) → Buf (Elt Ideal) ℓ) (c : Dev nD) (t : Fin cfg0.N) : Vec Ideal S1x128x64 .f32 :=
  View.ld (iblk m c 0 t) (Rect.unit (s := S1x512x64) (k0_off1 (grid0.coords t)) S1x128x64.size (k0_off1_inb (grid0.coords t)))

/-- The coordinate rows of point `t`. -/
abbrev coorRows (m : (ℓ : Loc nD τ sig) → Buf (Elt Ideal) ℓ) (c : Dev nD) (t : Fin cfg0.N) : Vec Ideal S1x128x8 .f32 :=
  View.ld (iblk m c 2 t) (Rect.unit (s := S1x512x8) (k0_off2 (grid0.coords t)) S1x128x8.size (k0_off2_inb (grid0.coords t)))

include H in
theorem featRows_read (i : S1x128x64.Idx) : featRows m c t i = ((N.f (bat t) (row t (i 1)) (i 2) : ℝ) : EReal) :=
  (View.ld_unit_apply_of (S := S1x512x64) (iblk m c 0 t) (k0_off1 (grid0.coords t)) S1x128x64.size (k0_off1_inb (grid0.coords t)) i
    (ix3 (0 : Fin 1) (row t (i 1)) (i 2)) (rows_at t _ (off1 t) i)).trans (block_feats H t _)

include H in
theorem coorRows_read (i : S1x128x8.Idx) : coorRows m c t i = ((pad N (bat t) (row t (i 1)) (i 2) : ℝ) : EReal) :=
  (View.ld_unit_apply_of (S := S1x512x8) (iblk m c 2 t) (k0_off2 (grid0.coords t)) S1x128x8.size (k0_off2_inb (grid0.coords t)) i
    (ix3 (0 : Fin 1) (row t (i 1)) (i 2)) (rows_at t _ (off2 t) i)).trans (block_coors H t _)

include H in
/-- With the right carried matrix a point's blocks are those of its tile. -/
theorem tile (A : Vec Ideal S258x512 .bf16) (hA : ∀ i, A i = ((colPart N (bat t) (i 1) (i 0) : ℝ) : EReal)) :
    Tile N (bat t) (row t) (featRows m c t) (coorRows m c t) A (iblk m c 2 t) (iblk m c 3 t) where
  hT := featRows_read H t
  hC := coorRows_read H t
  hA := hA
  h2 := block_coors H t
  h3 := block_coorsT H t

/-! ## The carried matrix -/

include H in
/-- What a batch's first point computes. -/
theorem colPart_read (i : S258x512.Idx) :
    k0_pay2 (F := Ideal) (iblk m c 5 t) (iblk m c 1 t) i = ((colPart N (bat t) (i 1) (i 0) : ℝ) : EReal) :=
  colPart_of N (bat t) (iblk m c 5 t) (iblk m c 1 t) (block_w1col H t) (block_featsT H t) i

include H in
/-- Every point leaves its batch's column part behind. -/
theorem carried (n : ℕ) : ∀ (hn : n < cfg0.N) (i : S258x512.Idx),
    (outsAt0 m c n hn).2.2 i = ((colPart N (bat ⟨n, hn⟩) (i 1) (i 0) : ℝ) : EReal) := by
  induction n with
  | zero =>
    intro hn i
    have e := outsAt0_A m c ⟨0, hn⟩ (Nat.zero_mod 4)
    rw [e]
    dsimp only
    rw [sA]
    exact colPart_read H _ i
  | succ n ih =>
    intro hn i
    by_cases h0 : (n + 1) % 4 = 0
    · have e := outsAt0_A m c ⟨n + 1, hn⟩ h0
      rw [e]
      dsimp only
      rw [sA]
      exact colPart_read H _ i
    · have e := outsAt0_B m c ⟨n + 1, hn⟩ h0
      rw [e]
      dsimp only
      rw [sB]
      refine (ih _ i).trans ?_
      have hb : bat ⟨n, Nat.lt_of_succ_lt hn⟩ = bat ⟨n + 1, hn⟩ := Fin.ext (by show n / 4 = (n + 1) / 4; omega)
      rw [← hb]

/-! ## The two tiles a point writes -/

include H in
theorem node_at (i : S1x128x64.Idx) : (outsAt0 m c t.val t.isLt).1 i = N.node (bat t) (row t (i 1)) (i 2) := by
  by_cases h0 : t.val % 4 = 0
  · rw [outsAt0_A m c t h0]
    dsimp only
    rw [nodeA]
    have HT := tile H t _ (colPart_read H t)
    exact nodeTile_read (weights H t) HT _ (m_read (weights H t) HT) i
  · rw [outsAt0_B m c t h0]
    dsimp only
    rw [nodeB]
    have HT := tile H t (outsAt0 m c (t.val - 1) (Nat.lt_of_le_of_lt (Nat.sub_le _ _) t.isLt)).2.2 fun i => by
      have hb : bat ⟨t.val - 1, Nat.lt_of_le_of_lt (Nat.sub_le _ _) t.isLt⟩ = bat t :=
        Fin.ext (by show (t.val - 1) / 4 = t.val / 4; omega)
      rw [← hb]
      exact carried H _ _ i
    exact nodeTile_read (weights H t) HT _ (m_read (weights H t) HT) i

include H in
theorem coor_at (i : S1x128x8.Idx) (hi : (i 2).val < 3) :
    (outsAt0 m c t.val t.isLt).2.1 i = ((N.coor (bat t) (row t (i 1)) ⟨(i 2).val, hi⟩ : ℝ) : EReal) := by
  by_cases h0 : t.val % 4 = 0
  · rw [outsAt0_A m c t h0]
    dsimp only
    rw [coorA]
    have HT := tile H t _ (colPart_read H t)
    exact coorTile_read HT _ (w_read (weights H t) HT) i hi
  · rw [outsAt0_B m c t h0]
    dsimp only
    rw [coorB]
    have HT := tile H t (outsAt0 m c (t.val - 1) (Nat.lt_of_le_of_lt (Nat.sub_le _ _) t.isLt)).2.2 fun i => by
      have hb : bat ⟨t.val - 1, Nat.lt_of_le_of_lt (Nat.sub_le _ _) t.isLt⟩ = bat t :=
        Fin.ext (by show (t.val - 1) / 4 = t.val / 4; omega)
      rw [← hb]
      exact carried H _ _ i
    exact coorTile_read HT _ (w_read (weights H t) HT) i hi

end Cert.KernelIdeal.Blocks
-- ==== Proof.Run.lean ====
/- The kernel's two results after a run, as the layer's numbers: every element of either array is in the tile some point
   writes, and the host's last slice drops the padding of the coordinates. -/
module

public import proofs.«01_k».proof.Proof.Blocks
public import Idealize.ShloMosaic.Lib.Pipeline.ValueKit.Geometry

@[expose] public section

noncomputable section

namespace Cert.KernelIdeal.Results

open Cert.KernelIdeal Cert.KernelIdeal.Gen Cert.KernelIdeal.Host Cert.KernelIdeal.Blocks Cert.Layer
open Idealize.ShloMosaic Idealize.ShloMosaic.TcCoe Idealize.ShloMosaic.ValueIdx Idealize.SL.Sem

/-- The node result. -/
def nodes (N : Nums) : Vec Ideal S2x512x64 .f32 := fun i => N.node (i 0) (i 1) (i 2)

/-- The coordinate result. -/
def coors (N : Nums) : Vec Ideal S2x512x3 .f32 := fun i => ((N.coor (i 0) (i 1) (i 2) : ℝ) : EReal)

variable {N : Nums} {m : (ℓ : Loc nD τ sig) → Buf (Elt Ideal) ℓ} {c : Dev nD} (H : Args N m c)

/-- A tile of rows sits at its batch and rows. -/
theorem tile_at {s : ℕ} (t : Fin cfg0.N) (idx : Fin 3 → ℕ) (h : idx = ![t.val / 4, t.val % 4, 0])
    (j : (⟨3, ![1, 128, s]⟩ : Shape).Idx) (a : Fin 3) :
    ((ix3 (bat t) (row t (j 1)) (j 2) : (⟨3, ![2, 512, s]⟩ : Shape).Idx) a).val
      = idx a * (![1, 128, s] : Fin 3 → ℕ) a + (j a).val := by
  subst h
  match a with
  | ⟨0, _⟩ =>
    have h0 : (j 0).val < 1 := (j 0).isLt
    show t.val / 4 = t.val / 4 * 1 + (j 0).val
    omega
  | ⟨1, _⟩ =>
    show 128 * (t.val % 4) + (j 1).val = t.val % 4 * 128 + (j 1).val
    omega
  | ⟨2, _⟩ => show (j 2).val = 0 * s + (j 2).val; omega

theorem node_emb (t : Fin cfg0.N) (y : S1x128x64.Idx) :
    ((cfg0.win 20).blk t).view.emb y = (ix3 (bat t) (row t (y 1)) (y 2) : S2x512x64.Idx) :=
  block_at t 20 rfl y _ (tile_at t _ (index_node t) y)

theorem coor_emb (t : Fin cfg0.N) (y : S1x128x8.Idx) :
    ((cfg0.win 21).blk t).view.emb y = (ix3 (bat t) (row t (y 1)) (y 2) : S2x512x8.Idx) :=
  block_at t 21 rfl y _ (tile_at t _ (index_coor t) y)

include H in
/-- The node array after the run. -/
theorem node_array : (dats m 0 c).arrAt 20 cfg0.N = nodes N := by
  refine (dats m 0 c).arrAt_eq_of_covers 20 (nodes N) (by decide +kernel) fun t _ y => ?_
  refine Eq.trans (b := (outsAt0 m c t.val t.isLt).1 y) ?_ ?_
  · exact congrFun (after0_20 m c t) y
  · rw [node_emb]
    exact node_at H t y

include H in
/-- The padded coordinate array after the run, away from the padding. -/
theorem coor_array (i : S2x512x8.Idx) (hi : (i 2).val < 3) :
    ((dats m 0 c).arrAt 21 cfg0.N : Vec Ideal S2x512x8 .f32) i = ((N.coor (i 0) (i 1) ⟨(i 2).val, hi⟩ : ℝ) : EReal) := by
  refine (dats m 0 c).arrAt_forall_of_covers 21
    (fun (i : S2x512x8.Idx) (v : EReal) => ∀ h : (i 2).val < 3, v = ((N.coor (i 0) (i 1) ⟨(i 2).val, h⟩ : ℝ) : EReal))
    (by decide +kernel) (fun t _ y => ?_) i (Memref.isWhole_whole _) hi
  rw [coor_emb]
  intro h
  refine Eq.trans (b := (outsAt0 m c t.val t.isLt).2.1 y) ?_ ?_
  · exact congrFun (after0_21 m c t) y
  · exact coor_at H t y h

theorem arrays_differ : Function.Injective (Pipeline.arrRef spec0) := by decide +kernel

/-- The host's last slice is of the padded coordinate array. -/
theorem slice_after : (Pipeline.afterTail₀ cfgs (dats m) 0 (V0 m) [hostOps1] c main_v34 : Vec Ideal S2x512x3 .f32)
    = extractStridedSlice S2x512x3 ![0, 0, 0] ((dats m 0 c).arrAt 21 cfg0.N : Vec Ideal S2x512x8 .f32) slices_S2x512x8_S2x512x3_0_0_0 := by
  have e := Pipeline.withArrays_arr spec0 arrays_differ c (V0 m c) (fun w => (dats m 0 c).arrAt w cfg0.N) 21
  rw [← e]
  unfold Pipeline.afterTail₀
  generalize Pipeline.withArrays spec0 c (V0 m c) (fun w => (dats m 0 c).arrAt w cfg0.N) = W
  rfl

include H in
theorem coor_after : (Pipeline.afterTail₀ cfgs (dats m) 0 (V0 m) [hostOps1] c main_v34 : Vec Ideal S2x512x3 .f32) = coors N := by
  rw [slice_after]
  funext i
  refine (extractStridedSlice_apply _ _ _ i (ix3 (i 0) (i 1) (⟨(i 2).val, Nat.lt_trans (i 2).isLt (by decide)⟩ : Fin 8)) fun a => ?_).trans
    (coor_array H _ (i 2).isLt)
  match a with
  | ⟨0, _⟩ => exact (Nat.zero_add _).symm
  | ⟨1, _⟩ => exact (Nat.zero_add _).symm
  | ⟨2, _⟩ => exact (Nat.zero_add _).symm

include H in
/-- Both results at the end of a run. -/
theorem results {r : PUnit × MemSt nD τ sig (Elt Ideal)}
    (h : Pipeline.FramePost cfgs (dats m) 0 (Pipeline.afterTail₀ cfgs (dats m) 0 (V0 m) [hostOps1]) r) :
    r.2.mem ((c.tc : Thread nD τ).loc main_v33_0) = nodes N ∧ r.2.mem ((c.tc : Thread nD τ).loc main_v34) = coors N :=
  ⟨((h c).1 20).trans (node_array H),
    ((h c).2 main_v34 (Pipeline.mem_restRefs_of main_v34 (by decide) (by decide))).trans (coor_after H)⟩

end Cert.KernelIdeal.Results
-- ==== Proof.Agree.lean ====
/- The arguments as numbers: where the precondition holds, every array that it names is an array of real numbers and the
   mask is one everywhere, which is what the two legs ask. -/
module

public import proofs.«01_k».proof.Proof.RefValue
public import proofs.«01_k».proof.Proof.Run

@[expose] public section

noncomputable section

namespace Cert.Agree

open Cert.KernelIdeal Cert.Layer Idealize.ShloMosaic Idealize.ShloMosaic.TcCoe Idealize.ShloMosaic.ValueIdx

/-- Every element is a real number. -/
def Finite {S : Shape} (x : FVec Ideal S .f32) : Prop := ∀ i, x i = ((EReal.toReal (x i) : ℝ) : EReal)

/-- An extended real whose absolute value is below the top is a real number. -/
theorem coe_toReal_of_abs (x : EReal) (h : max x (-x) < ⊤) : x = ((x.toReal : ℝ) : EReal) := by
  have h1 := max_lt_iff.1 h
  refine (EReal.coe_toReal h1.1.ne fun hb => ?_).symm
  rw [hb, EReal.neg_bot] at h1
  exact lt_irrefl _ h1.2

/-- The precondition's comparison says that an array is finite. -/
theorem finite_of {S : Shape} (x : FVec Ideal S .f32) (b : (⟨0, ![]⟩ : Shape).BroadcastsInDim S ![])
    (h : cmpf .olt (Host.absf x) (broadcastInDim S ![] b (constant ⟨0, ![]⟩ .f32 0x7F800000#32)) = fun _ => 1#1) : Finite x := by
  intro i
  have top : Ideal.ofBits .f32 0x7F800000#32 = ⊤ := by simp [Ideal.ofBits, Ideal.ieee]
  have hi : Ideal.cmp .olt (max (x i : EReal) (-(x i : EReal))) (Ideal.ofBits .f32 0x7F800000#32) = 1#1 := congrFun h i
  rw [top] at hi
  refine coe_toReal_of_abs _ ?_
  by_contra hn
  simp [Ideal.cmp, hn] at hi

/-- A column has one place across. -/
theorem only_column (i : S64x1.Idx) : i = ix2 (i 0) (0 : Fin 1) :=
  (eq_ix2 i).trans (congrArg (ix2 (i 0)) (Subsingleton.elim (α := Fin 1) (i 1) 0))

/-- An array of one element has one place. -/
theorem only_place (i : S1.Idx) : i = ix1 (0 : Fin 1) :=
  (eq_ix1 i).trans (congrArg ix1 (Subsingleton.elim (α := Fin 1) (i 0) 0))

variable (x0 : FVec Ideal S2x512x64 .f32) (x1 : FVec Ideal S2x512x3 .f32) (x2 : IVec S2x512 1) (x3 : FVec Ideal S129x258 .f32) (x4 : FVec Ideal S258 .f32) (x5 : FVec Ideal S258x16 .f32) (x6 : FVec Ideal S16 .f32) (x7 : FVec Ideal S16x64 .f32) (x8 : FVec Ideal S64 .f32) (x9 : FVec Ideal S64x1 .f32) (x10 : FVec Ideal S1 .f32) (x11 : FVec Ideal S80x128 .f32) (x12 : FVec Ideal S128 .f32) (x13 : FVec Ideal S128x64 .f32) (x14 : FVec Ideal S64 .f32) (x15 : FVec Ideal S64 .f32) (x16 : FVec Ideal S64 .f32)

/-- The numbers in the arguments. -/
def nums : Nums where
  f a b d := EReal.toReal (x0 (ix3 a b d))
  c a b d := EReal.toReal (x1 (ix3 a b d))
  we1 a b := EReal.toReal (x3 (ix2 a b))
  be1 a := EReal.toReal (x4 (ix1 a))
  we2 a b := EReal.toReal (x5 (ix2 a b))
  be2 a := EReal.toReal (x6 (ix1 a))
  wc1 a b := EReal.toReal (x7 (ix2 a b))
  bc1 a := EReal.toReal (x8 (ix1 a))
  wc2 a := EReal.toReal (x9 (ix2 a (0 : Fin 1)))
  bc2 := EReal.toReal (x10 (ix1 (0 : Fin 1)))
  wn1 a b := EReal.toReal (x11 (ix2 a b))
  bn1 a := EReal.toReal (x12 (ix1 a))
  wn2 a b := x13 (ix2 a b)
  bn2 a := x14 (ix1 a)
  g a := EReal.toReal (x15 (ix1 a))
  bt a := EReal.toReal (x16 (ix1 a))

variable {x0 x1 x2 x3 x4 x5 x6 x7 x8 x9 x10 x11 x12 x13 x14 x15 x16}

/-- Finite arguments with nothing masked hold their numbers. -/
theorem reads (f2 : x2 = fun _ => 1#1) (f0 : Finite x0) (f1 : Finite x1) (f3 : Finite x3) (f4 : Finite x4) (f5 : Finite x5) (f6 : Finite x6) (f7 : Finite x7) (f8 : Finite x8) (f9 : Finite x9) (f10 : Finite x10) (f11 : Finite x11) (f12 : Finite x12) (f15 : Finite x15) (f16 : Finite x16) :
    RefValue.Reads (nums x0 x1 x3 x4 x5 x6 x7 x8 x9 x10 x11 x12 x13 x14 x15 x16) x0 x1 x2 x3 x4 x5 x6 x7 x8 x9 x10 x11 x12 x13 x14 x15 x16 where
  h0 i := (f0 i).trans (congrArg (fun j => ((EReal.toReal (x0 j) : ℝ) : EReal)) (eq_ix3 i))
  h1 i := (f1 i).trans (congrArg (fun j => ((EReal.toReal (x1 j) : ℝ) : EReal)) (eq_ix3 i))
  h2 i := congrFun f2 i
  h3 i := (f3 i).trans (congrArg (fun j => ((EReal.toReal (x3 j) : ℝ) : EReal)) (eq_ix2 i))
  h4 i := (f4 i).trans (congrArg (fun j => ((EReal.toReal (x4 j) : ℝ) : EReal)) (eq_ix1 i))
  h5 i := (f5 i).trans (congrArg (fun j => ((EReal.toReal (x5 j) : ℝ) : EReal)) (eq_ix2 i))
  h6 i := (f6 i).trans (congrArg (fun j => ((EReal.toReal (x6 j) : ℝ) : EReal)) (eq_ix1 i))
  h7 i := (f7 i).trans (congrArg (fun j => ((EReal.toReal (x7 j) : ℝ) : EReal)) (eq_ix2 i))
  h8 i := (f8 i).trans (congrArg (fun j => ((EReal.toReal (x8 j) : ℝ) : EReal)) (eq_ix1 i))
  h9 i := (f9 i).trans (congrArg (fun j => ((EReal.toReal (x9 j) : ℝ) : EReal)) (only_column i))
  h10 i := (f10 i).trans (congrArg (fun j => ((EReal.toReal (x10 j) : ℝ) : EReal)) (only_place i))
  h11 i := (f11 i).trans (congrArg (fun j => ((EReal.toReal (x11 j) : ℝ) : EReal)) (eq_ix2 i))
  h12 i := (f12 i).trans (congrArg (fun j => ((EReal.toReal (x12 j) : ℝ) : EReal)) (eq_ix1 i))
  h13 i := congrArg x13 (eq_ix2 i)
  h14 i := congrArg x14 (eq_ix1 i)
  h15 i := (f15 i).trans (congrArg (fun j => ((EReal.toReal (x15 j) : ℝ) : EReal)) (eq_ix1 i))
  h16 i := (f16 i).trans (congrArg (fun j => ((EReal.toReal (x16 j) : ℝ) : EReal)) (eq_ix1 i))

end Cert.Agree
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_unmasked
public import proofs.«01_k».proof.Proof.Agree
public import Idealize.ShloMosaic.Adequacy
public import Idealize.ShloMosaic.Init

@[expose] public section

noncomputable section

namespace Cert.Proof

open Idealize.ShloMosaic Idealize.SL.Sem Cert.Kernel

/-- The reference runs and leaves its arguments alone. -/
theorem frame_reference : Cert.quiescent_ReferenceIdeal := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

/-- The numbers that the kernel's arguments on core `c` hold. -/
def nums (m : (ℓ : Loc Cert.KernelIdeal.nD Cert.KernelIdeal.τ Cert.KernelIdeal.sig) → Buf (Elt Ideal) ℓ)
    (c : Dev Cert.KernelIdeal.nD) : Cert.Layer.Nums :=
  Cert.Agree.nums (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg9))
    (m ((c.tc : Thread Cert.KernelIdeal.nD Cert.KernelIdeal.τ).loc Cert.KernelIdeal.main_arg10))
    (m ((c.tc : Thread Cert.KernelIdeal.nD Cert.KernelIdeal.τ).loc Cert.KernelIdeal.main_arg11))
    (m ((c.tc : Thread Cert.KernelIdeal.nD Cert.KernelIdeal.τ).loc Cert.KernelIdeal.main_arg12))
    (m ((c.tc : Thread Cert.KernelIdeal.nD Cert.KernelIdeal.τ).loc Cert.KernelIdeal.main_arg13))
    (m ((c.tc : Thread Cert.KernelIdeal.nD Cert.KernelIdeal.τ).loc Cert.KernelIdeal.main_arg14))
    (m ((c.tc : Thread Cert.KernelIdeal.nD Cert.KernelIdeal.τ).loc Cert.KernelIdeal.main_arg15))
    (m ((c.tc : Thread Cert.KernelIdeal.nD Cert.KernelIdeal.τ).loc Cert.KernelIdeal.main_arg16))

/-- Under the precondition the kernel's arguments on core `c` hold them. -/
theorem reads (m : (ℓ : Loc Cert.KernelIdeal.nD Cert.KernelIdeal.τ Cert.KernelIdeal.sig) → Buf (Elt Ideal) ℓ)
    (h : Cert.Pre_KernelIdeal_finite_unmasked (hPre_finite_unmasked := Cert.Pre_finite_unmasked.Gen.facts) m)
    (c : Dev Cert.KernelIdeal.nD) :
    Cert.RefValue.Reads (nums m c) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16)) := by
  obtain ⟨h2, h0, h1, h3, h4, h5, h6, h7, h8, h9, h10, h11, h12, h15, h16⟩ := h c
  exact Cert.Agree.reads h2 (Cert.Agree.finite_of _ _ h0) (Cert.Agree.finite_of _ _ h1) (Cert.Agree.finite_of _ _ h3) (Cert.Agree.finite_of _ _ h4) (Cert.Agree.finite_of _ _ h5) (Cert.Agree.finite_of _ _ h6) (Cert.Agree.finite_of _ _ h7) (Cert.Agree.finite_of _ _ h8) (Cert.Agree.finite_of _ _ h9) (Cert.Agree.finite_of _ _ h10) (Cert.Agree.finite_of _ _ h11) (Cert.Agree.finite_of _ _ h12) (Cert.Agree.finite_of _ _ h15) (Cert.Agree.finite_of _ _ h16)

/-- The kernel and the reference leave the same node result and the same coordinate result. -/
theorem agree : Cert.algebraic_KernelIdeal_ReferenceIdeal_pre_finite_unmasked (hKernelIdeal := Cert.KernelIdeal.Gen.facts)
    (hReferenceIdeal := Cert.ReferenceIdeal.Gen.facts) (hPre_finite_unmasked := Cert.Pre_finite_unmasked.Gen.facts) := by
  intro m g m' g' hpre heq
  have H := reads m hpre
  have K : ∀ c, Cert.KernelIdeal.Host.Args (nums m c) m c := fun c =>
    ⟨(H c).h0, (H c).h1, (H c).h3, (H c).h4, (H c).h5, (H c).h6, (H c).h7, (H c).h8, (H c).h9, (H c).h10, (H c).h11, (H c).h12, (H c).h13, (H c).h14, (H c).h15, (H c).h16⟩
  refine ⟨fun c => Cert.KernelIdeal.Results.nodes (nums m c), fun c => Cert.KernelIdeal.Results.coors (nums m c), ?_, ?_⟩
  · exact (θ_run Cert.KernelIdeal.defs _ _).mono
      (fun r h c => ⟨(Cert.KernelIdeal.Results.results (K c) h.2).1, (Cert.KernelIdeal.Results.results (K c) h.2).2, h.1.1 c⟩)
      (Idealize.ShloMosaic.θ_run_and (Cert.KernelIdeal.Gen.frame m g) (Cert.KernelIdeal.Gen.run_main m g))
  · refine (θ_run Cert.ReferenceIdeal.defs _ _).mono (fun r h c => ?_) (Cert.ReferenceIdeal.Value.run (F := Ideal) m' g')
    obtain ⟨e0, e1, e2, e3, e4, e5, e6, e7, e8, e9, e10, e11, e12, e13, e14, e15, e16⟩ := heq c
    refine ⟨(h c).1.trans ?_, (h c).2.1.trans ?_, (h c).2.2⟩
    · rw [Cert.ReferenceIdeal.Read.val_main_v96_eq, e0, e1, e2, e3, e4, e5, e6, e11, e12, e13, e14, e15, e16]
      exact funext fun i => Cert.RefValue.node_read (H c) i
    · rw [Cert.ReferenceIdeal.Read.val_main_v58_eq, e0, e1, e2, e3, e4, e5, e6, e7, e8, e9, e10]
      exact funext fun i => Cert.RefValue.coor_read (H c) i

/-- Everything that is claimed. -/
theorem claim : Cert.Claim := ⟨Cert.Kernel.Gen.facts, Cert.KernelIdeal.Gen.facts, Cert.ReferenceIdeal.Gen.facts,
  Cert.Pre_finite_unmasked.Gen.facts,
  fun m ρ _ => Cert.Kernel.Gen.frame m ρ, fun m ρ _ => Cert.KernelIdeal.Gen.frame m ρ,
  fun m ρ _ => Cert.KernelIdeal.Gen.frame m ρ, fun m ρ _ => frame_reference m ρ trivial, fun m ρ _ => frame_reference m ρ trivial,
  trivial, agree⟩

end Cert.Proof

end
